-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![256, 8192]⟩ ⟨2, ![8192, 8192]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![8192, 128]⟩ ⟨2, ![8192, 4096]⟩ 1 32 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![8192, 128]⟩ ⟨2, ![8192, 4096]⟩ 1 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v4) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x8192 : Shape := ⟨2, ![256, 8192]⟩
abbrev S8192x128 : Shape := ⟨2, ![8192, 128]⟩
abbrev S3x8192x128 : Shape := ⟨3, ![3, 8192, 128]⟩
abbrev S17x256x128 : Shape := ⟨3, ![17, 256, 128]⟩
abbrev S16x256x128 : Shape := ⟨3, ![16, 256, 128]⟩
abbrev S3 : Shape := ⟨1, ![3]⟩
abbrev S17 : Shape := ⟨1, ![17]⟩
abbrev S16 : Shape := ⟨1, ![16]⟩
abbrev S_ : Shape := ⟨0, ![]⟩
abbrev S1x8192x128 : Shape := ⟨3, ![1, 8192, 128]⟩
abbrev S1 : Shape := ⟨1, ![1]⟩
abbrev S256x128 : Shape := ⟨2, ![256, 128]⟩
abbrev S1x256x128 : Shape := ⟨3, ![1, 256, 128]⟩

abbrev nBuf : Space → Nat
  | .hbm => 3
  | .vmem => 10
  | .smem => 0
  | _ => 0

abbrev bufTy : (tb : Table) → Fin (tcTables nBuf tb) → BufTy
  | .hbm, ⟨0, _⟩ => ⟨S256x8192, .bf16⟩
  | .hbm, ⟨1, _⟩ => ⟨S8192x128, .bf16⟩
  | .hbm, ⟨2, _⟩ => ⟨S8192x128, .f32⟩
  | .local _ .vmem, ⟨0, _⟩ => ⟨S256x8192, .bf16⟩
  | .local _ .vmem, ⟨1, _⟩ => ⟨S8192x128, .bf16⟩
  | .local _ .vmem, ⟨2, _⟩ => ⟨S8192x128, .f32⟩
  | .local _ .vmem, ⟨3, _⟩ => ⟨S3x8192x128, .bf16⟩
  | .local _ .vmem, ⟨4, _⟩ => ⟨S3x8192x128, .bf16⟩
  | .local _ .vmem, ⟨5, _⟩ => ⟨S256x8192, .bf16⟩
  | .local _ .vmem, ⟨6, _⟩ => ⟨S17x256x128, .bf16⟩
  | .local _ .vmem, ⟨7, _⟩ => ⟨S17x256x128, .bf16⟩
  | .local _ .vmem, ⟨8, _⟩ => ⟨S16x256x128, .bf16⟩
  | .local _ .vmem, ⟨9, _⟩ => ⟨S16x256x128, .bf16⟩
  | _, _ => ⟨S256x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 81 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | _ => false

abbrev sig : RefSig :=
  (ofTc nBuf bufTy 1 81 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_scratch6 : Ref sig .tc := ⟨.vmem, 9, rfl⟩
abbrev cc0_sem0_0 : DmaSem sig := 0
abbrev cc0_sem1_0 : DmaSem sig := 1
abbrev cc0_sem2_0 : DmaSem sig := 2
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_8 : BitVec 32 := 1#32
  let v11 : BitVec 32 := Scalar.muli v7 c1_i32_8
  let v12 : BitVec 32 := Scalar.addi c0_i32_9 v11
  v12.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_25 : BitVec 32 := 1#32
  let v26 : BitVec 32 := Scalar.muli v7 c1_i32_25
  let v27 : BitVec 32 := Scalar.addi c0_i32_26 v26
  v27.toNat
def k0_dev4 (d0 : Dev nD) : Nat :=
  let c0_i32_36 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_35 : BitVec 32 := 1#32
  let v36 : BitVec 32 := Scalar.muli v5 c1_i32_35
  let v37 : BitVec 32 := Scalar.addi c0_i32_36 v36
  v37.toNat
def k0_off1 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c256_i32 : BitVec 32 := 256#32
  let v52 : BitVec 32 := Scalar.muli v2 c256_i32
  let v53 : Index := Scalar.indexCast v52
  let c0_47 : Index := 0#32
  ![v53.toNat, 0]
def k0_dev5 (d0 : Dev nD) : Nat :=
  let c0_i32_91 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_90 : BitVec 32 := 1#32
  let v83 : BitVec 32 := Scalar.muli v7 c1_i32_90
  let v84 : BitVec 32 := Scalar.addi c0_i32_91 v83
  v84.toNat
def k0_dev6 (d0 : Dev nD) : Nat :=
  let c0_i32_101 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_100 : BitVec 32 := 1#32
  let v93 : BitVec 32 := Scalar.muli v5 c1_i32_100
  let v94 : BitVec 32 := Scalar.addi c0_i32_101 v93
  v94.toNat
def k0_dev7 (d0 : Dev nD) : Nat :=
  let c0_i32_123 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_106 : BitVec 32 := 1#32
  let v103 : BitVec 32 := Scalar.subi v2 c1_i32_106
  let c32_i32_107 : BitVec 32 := 32#32
  let v104 : BitVec 32 := Scalar.addi v103 c32_i32_107
  let c32_i32_108 : BitVec 32 := 32#32
  let v105 : BitVec 32 := Scalar.remsi v104 c32_i32_108
  let c1_i32_122 : BitVec 32 := 1#32
  let v116 : BitVec 32 := Scalar.muli v105 c1_i32_122
  let v117 : BitVec 32 := Scalar.addi c0_i32_123 v116
  v117.toNat
def k0_dev8 (d0 : Dev nD) : Nat :=
  let c0_i32_145 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_128 : BitVec 32 := 1#32
  let v126 : BitVec 32 := Scalar.addi v2 c1_i32_128
  let c32_i32_129 : BitVec 32 := 32#32
  let v127 : BitVec 32 := Scalar.remsi v126 c32_i32_129
  let c1_i32_144 : BitVec 32 := 1#32
  let v138 : BitVec 32 := Scalar.muli v127 c1_i32_144
  let v139 : BitVec 32 := Scalar.addi c0_i32_145 v138
  v139.toNat
def k0_dev9 (d0 : Dev nD) : Nat :=
  let c0_i32_193 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_192 : BitVec 32 := 1#32
  let v176 : BitVec 32 := Scalar.muli v7 c1_i32_192
  let v177 : BitVec 32 := Scalar.addi c0_i32_193 v176
  v177.toNat
def k0_dev10 (d0 : Dev nD) : Nat :=
  let c0_i32_203 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_202 : BitVec 32 := 1#32
  let v186 : BitVec 32 := Scalar.muli v5 c1_i32_202
  let v187 : BitVec 32 := Scalar.addi c0_i32_203 v186
  v187.toNat
def k0_dev11 (d0 : Dev nD) : Nat :=
  let c0_i32_225 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_208 : BitVec 32 := 2#32
  let v196 : BitVec 32 := Scalar.subi v2 c2_i32_208
  let c32_i32_209 : BitVec 32 := 32#32
  let v197 : BitVec 32 := Scalar.addi v196 c32_i32_209
  let c32_i32_210 : BitVec 32 := 32#32
  let v198 : BitVec 32 := Scalar.remsi v197 c32_i32_210
  let c1_i32_224 : BitVec 32 := 1#32
  let v209 : BitVec 32 := Scalar.muli v198 c1_i32_224
  let v210 : BitVec 32 := Scalar.addi c0_i32_225 v209
  v210.toNat
def k0_dev12 (d0 : Dev nD) : Nat :=
  let c0_i32_247 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_230 : BitVec 32 := 2#32
  let v219 : BitVec 32 := Scalar.addi v2 c2_i32_230
  let c32_i32_231 : BitVec 32 := 32#32
  let v220 : BitVec 32 := Scalar.remsi v219 c32_i32_231
  let c1_i32_246 : BitVec 32 := 1#32
  let v231 : BitVec 32 := Scalar.muli v220 c1_i32_246
  let v232 : BitVec 32 := Scalar.addi c0_i32_247 v231
  v232.toNat
def k0_dev13 (d0 : Dev nD) : Nat :=
  let c0_i32_295 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_294 : BitVec 32 := 1#32
  let v269 : BitVec 32 := Scalar.muli v7 c1_i32_294
  let v270 : BitVec 32 := Scalar.addi c0_i32_295 v269
  v270.toNat
def k0_dev14 (d0 : Dev nD) : Nat :=
  let c0_i32_305 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_304 : BitVec 32 := 1#32
  let v279 : BitVec 32 := Scalar.muli v5 c1_i32_304
  let v280 : BitVec 32 := Scalar.addi c0_i32_305 v279
  v280.toNat
def k0_dev15 (d0 : Dev nD) : Nat :=
  let c0_i32_326 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v289 : BitVec 32 := Scalar.subi v2 c3_i32
  let c32_i32_310 : BitVec 32 := 32#32
  let v290 : BitVec 32 := Scalar.addi v289 c32_i32_310
  let c32_i32_311 : BitVec 32 := 32#32
  let v291 : BitVec 32 := Scalar.remsi v290 c32_i32_311
  let c1_i32_325 : BitVec 32 := 1#32
  let v302 : BitVec 32 := Scalar.muli v291 c1_i32_325
  let v303 : BitVec 32 := Scalar.addi c0_i32_326 v302
  v303.toNat
def k0_dev16 (d0 : Dev nD) : Nat :=
  let c0_i32_348 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_331 : BitVec 32 := 3#32
  let v312 : BitVec 32 := Scalar.addi v2 c3_i32_331
  let c32_i32_332 : BitVec 32 := 32#32
  let v313 : BitVec 32 := Scalar.remsi v312 c32_i32_332
  let c1_i32_347 : BitVec 32 := 1#32
  let v324 : BitVec 32 := Scalar.muli v313 c1_i32_347
  let v325 : BitVec 32 := Scalar.addi c0_i32_348 v324
  v325.toNat
def k0_off2 (d0 : Dev nD) (c1_i32_372 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v348 : BitVec 32 := Scalar.addi v2 c1_i32_372
  let c32_i32_373 : BitVec 32 := 32#32
  let v349 : BitVec 32 := Scalar.remsi v348 c32_i32_373
  let c256_i32_377 : BitVec 32 := 256#32
  let v353 : BitVec 32 := Scalar.muli v349 c256_i32_377
  let v354 : Index := Scalar.indexCast v353
  let c0_378 : Index := 0#32
  ![v354.toNat, 0]
def k0_off3 (d0 : Dev nD) (c1_i32_398 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v370 : BitVec 32 := Scalar.subi v2 c1_i32_398
  let c32_i32_399 : BitVec 32 := 32#32
  let v371 : BitVec 32 := Scalar.addi v370 c32_i32_399
  let c32_i32_400 : BitVec 32 := 32#32
  let v372 : BitVec 32 := Scalar.remsi v371 c32_i32_400
  let c256_i32_404 : BitVec 32 := 256#32
  let v376 : BitVec 32 := Scalar.muli v372 c256_i32_404
  let v377 : Index := Scalar.indexCast v376
  let c0_405 : Index := 0#32
  ![v377.toNat, 0]
def k0_dev17 (d0 : Dev nD) : Nat :=
  let c0_i32_449 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_448 : BitVec 32 := 1#32
  let v407 : BitVec 32 := Scalar.muli v7 c1_i32_448
  let v408 : BitVec 32 := Scalar.addi c0_i32_449 v407
  v408.toNat
def k0_dev18 (d0 : Dev nD) : Nat :=
  let c0_i32_459 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_458 : BitVec 32 := 1#32
  let v417 : BitVec 32 := Scalar.muli v5 c1_i32_458
  let v418 : BitVec 32 := Scalar.addi c0_i32_459 v417
  v418.toNat
def k0_dev19 (d0 : Dev nD) : Nat :=
  let c0_i32_480 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v427 : BitVec 32 := Scalar.subi v2 c4_i32
  let c32_i32_464 : BitVec 32 := 32#32
  let v428 : BitVec 32 := Scalar.addi v427 c32_i32_464
  let c32_i32_465 : BitVec 32 := 32#32
  let v429 : BitVec 32 := Scalar.remsi v428 c32_i32_465
  let c1_i32_479 : BitVec 32 := 1#32
  let v440 : BitVec 32 := Scalar.muli v429 c1_i32_479
  let v441 : BitVec 32 := Scalar.addi c0_i32_480 v440
  v441.toNat
def k0_dev20 (d0 : Dev nD) : Nat :=
  let c0_i32_502 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_485 : BitVec 32 := 4#32
  let v450 : BitVec 32 := Scalar.addi v2 c4_i32_485
  let c32_i32_486 : BitVec 32 := 32#32
  let v451 : BitVec 32 := Scalar.remsi v450 c32_i32_486
  let c1_i32_501 : BitVec 32 := 1#32
  let v462 : BitVec 32 := Scalar.muli v451 c1_i32_501
  let v463 : BitVec 32 := Scalar.addi c0_i32_502 v462
  v463.toNat
def k0_dev21 (d0 : Dev nD) : Nat :=
  let c0_i32_603 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_602 : BitVec 32 := 1#32
  let v545 : BitVec 32 := Scalar.muli v7 c1_i32_602
  let v546 : BitVec 32 := Scalar.addi c0_i32_603 v545
  v546.toNat
def k0_dev22 (d0 : Dev nD) : Nat :=
  let c0_i32_613 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_612 : BitVec 32 := 1#32
  let v555 : BitVec 32 := Scalar.muli v5 c1_i32_612
  let v556 : BitVec 32 := Scalar.addi c0_i32_613 v555
  v556.toNat
def k0_dev23 (d0 : Dev nD) : Nat :=
  let c0_i32_634 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v565 : BitVec 32 := Scalar.subi v2 c5_i32
  let c32_i32_618 : BitVec 32 := 32#32
  let v566 : BitVec 32 := Scalar.addi v565 c32_i32_618
  let c32_i32_619 : BitVec 32 := 32#32
  let v567 : BitVec 32 := Scalar.remsi v566 c32_i32_619
  let c1_i32_633 : BitVec 32 := 1#32
  let v578 : BitVec 32 := Scalar.muli v567 c1_i32_633
  let v579 : BitVec 32 := Scalar.addi c0_i32_634 v578
  v579.toNat
def k0_dev24 (d0 : Dev nD) : Nat :=
  let c0_i32_656 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_639 : BitVec 32 := 5#32
  let v588 : BitVec 32 := Scalar.addi v2 c5_i32_639
  let c32_i32_640 : BitVec 32 := 32#32
  let v589 : BitVec 32 := Scalar.remsi v588 c32_i32_640
  let c1_i32_655 : BitVec 32 := 1#32
  let v600 : BitVec 32 := Scalar.muli v589 c1_i32_655
  let v601 : BitVec 32 := Scalar.addi c0_i32_656 v600
  v601.toNat
def k0_dev25 (d0 : Dev nD) : Nat :=
  let c0_i32_757 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_756 : BitVec 32 := 1#32
  let v683 : BitVec 32 := Scalar.muli v7 c1_i32_756
  let v684 : BitVec 32 := Scalar.addi c0_i32_757 v683
  v684.toNat
def k0_dev26 (d0 : Dev nD) : Nat :=
  let c0_i32_767 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_766 : BitVec 32 := 1#32
  let v693 : BitVec 32 := Scalar.muli v5 c1_i32_766
  let v694 : BitVec 32 := Scalar.addi c0_i32_767 v693
  v694.toNat
def k0_dev27 (d0 : Dev nD) : Nat :=
  let c0_i32_788 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v703 : BitVec 32 := Scalar.subi v2 c6_i32
  let c32_i32_772 : BitVec 32 := 32#32
  let v704 : BitVec 32 := Scalar.addi v703 c32_i32_772
  let c32_i32_773 : BitVec 32 := 32#32
  let v705 : BitVec 32 := Scalar.remsi v704 c32_i32_773
  let c1_i32_787 : BitVec 32 := 1#32
  let v716 : BitVec 32 := Scalar.muli v705 c1_i32_787
  let v717 : BitVec 32 := Scalar.addi c0_i32_788 v716
  v717.toNat
def k0_dev28 (d0 : Dev nD) : Nat :=
  let c0_i32_810 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_793 : BitVec 32 := 6#32
  let v726 : BitVec 32 := Scalar.addi v2 c6_i32_793
  let c32_i32_794 : BitVec 32 := 32#32
  let v727 : BitVec 32 := Scalar.remsi v726 c32_i32_794
  let c1_i32_809 : BitVec 32 := 1#32
  let v738 : BitVec 32 := Scalar.muli v727 c1_i32_809
  let v739 : BitVec 32 := Scalar.addi c0_i32_810 v738
  v739.toNat
def k0_dev29 (d0 : Dev nD) : Nat :=
  let c0_i32_911 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_910 : BitVec 32 := 1#32
  let v821 : BitVec 32 := Scalar.muli v7 c1_i32_910
  let v822 : BitVec 32 := Scalar.addi c0_i32_911 v821
  v822.toNat
def k0_dev30 (d0 : Dev nD) : Nat :=
  let c0_i32_921 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_920 : BitVec 32 := 1#32
  let v831 : BitVec 32 := Scalar.muli v5 c1_i32_920
  let v832 : BitVec 32 := Scalar.addi c0_i32_921 v831
  v832.toNat
def k0_dev31 (d0 : Dev nD) : Nat :=
  let c0_i32_942 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v841 : BitVec 32 := Scalar.subi v2 c7_i32
  let c32_i32_926 : BitVec 32 := 32#32
  let v842 : BitVec 32 := Scalar.addi v841 c32_i32_926
  let c32_i32_927 : BitVec 32 := 32#32
  let v843 : BitVec 32 := Scalar.remsi v842 c32_i32_927
  let c1_i32_941 : BitVec 32 := 1#32
  let v854 : BitVec 32 := Scalar.muli v843 c1_i32_941
  let v855 : BitVec 32 := Scalar.addi c0_i32_942 v854
  v855.toNat
def k0_dev32 (d0 : Dev nD) : Nat :=
  let c0_i32_964 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_947 : BitVec 32 := 7#32
  let v864 : BitVec 32 := Scalar.addi v2 c7_i32_947
  let c32_i32_948 : BitVec 32 := 32#32
  let v865 : BitVec 32 := Scalar.remsi v864 c32_i32_948
  let c1_i32_963 : BitVec 32 := 1#32
  let v876 : BitVec 32 := Scalar.muli v865 c1_i32_963
  let v877 : BitVec 32 := Scalar.addi c0_i32_964 v876
  v877.toNat
def k0_dev33 (d0 : Dev nD) : Nat :=
  let c0_i32_1065 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1064 : BitVec 32 := 1#32
  let v959 : BitVec 32 := Scalar.muli v7 c1_i32_1064
  let v960 : BitVec 32 := Scalar.addi c0_i32_1065 v959
  v960.toNat
def k0_dev34 (d0 : Dev nD) : Nat :=
  let c0_i32_1075 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_1074 : BitVec 32 := 1#32
  let v969 : BitVec 32 := Scalar.muli v5 c1_i32_1074
  let v970 : BitVec 32 := Scalar.addi c0_i32_1075 v969
  v970.toNat
def k0_dev35 (d0 : Dev nD) : Nat :=
  let c0_i32_1096 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v979 : BitVec 32 := Scalar.subi v2 c8_i32
  let c32_i32_1080 : BitVec 32 := 32#32
  let v980 : BitVec 32 := Scalar.addi v979 c32_i32_1080
  let c32_i32_1081 : BitVec 32 := 32#32
  let v981 : BitVec 32 := Scalar.remsi v980 c32_i32_1081
  let c1_i32_1095 : BitVec 32 := 1#32
  let v992 : BitVec 32 := Scalar.muli v981 c1_i32_1095
  let v993 : BitVec 32 := Scalar.addi c0_i32_1096 v992
  v993.toNat
def k0_dev36 (d0 : Dev nD) : Nat :=
  let c0_i32_1118 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1101 : BitVec 32 := 8#32
  let v1002 : BitVec 32 := Scalar.addi v2 c8_i32_1101
  let c32_i32_1102 : BitVec 32 := 32#32
  let v1003 : BitVec 32 := Scalar.remsi v1002 c32_i32_1102
  let c1_i32_1117 : BitVec 32 := 1#32
  let v1014 : BitVec 32 := Scalar.muli v1003 c1_i32_1117
  let v1015 : BitVec 32 := Scalar.addi c0_i32_1118 v1014
  v1015.toNat
def k0_dev37 (d0 : Dev nD) : Nat :=
  let c0_i32_1219 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1218 : BitVec 32 := 1#32
  let v1097 : BitVec 32 := Scalar.muli v7 c1_i32_1218
  let v1098 : BitVec 32 := Scalar.addi c0_i32_1219 v1097
  v1098.toNat
def k0_dev38 (d0 : Dev nD) : Nat :=
  let c0_i32_1229 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_1228 : BitVec 32 := 1#32
  let v1107 : BitVec 32 := Scalar.muli v5 c1_i32_1228
  let v1108 : BitVec 32 := Scalar.addi c0_i32_1229 v1107
  v1108.toNat
def k0_dev39 (d0 : Dev nD) : Nat :=
  let c0_i32_1250 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v1117 : BitVec 32 := Scalar.subi v2 c9_i32
  let c32_i32_1234 : BitVec 32 := 32#32
  let v1118 : BitVec 32 := Scalar.addi v1117 c32_i32_1234
  let c32_i32_1235 : BitVec 32 := 32#32
  let v1119 : BitVec 32 := Scalar.remsi v1118 c32_i32_1235
  let c1_i32_1249 : BitVec 32 := 1#32
  let v1130 : BitVec 32 := Scalar.muli v1119 c1_i32_1249
  let v1131 : BitVec 32 := Scalar.addi c0_i32_1250 v1130
  v1131.toNat
def k0_dev40 (d0 : Dev nD) : Nat :=
  let c0_i32_1272 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_1255 : BitVec 32 := 9#32
  let v1140 : BitVec 32 := Scalar.addi v2 c9_i32_1255
  let c32_i32_1256 : BitVec 32 := 32#32
  let v1141 : BitVec 32 := Scalar.remsi v1140 c32_i32_1256
  let c1_i32_1271 : BitVec 32 := 1#32
  let v1152 : BitVec 32 := Scalar.muli v1141 c1_i32_1271
  let v1153 : BitVec 32 := Scalar.addi c0_i32_1272 v1152
  v1153.toNat
def k0_dev41 (d0 : Dev nD) : Nat :=
  let c0_i32_1373 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1372 : BitVec 32 := 1#32
  let v1235 : BitVec 32 := Scalar.muli v7 c1_i32_1372
  let v1236 : BitVec 32 := Scalar.addi c0_i32_1373 v1235
  v1236.toNat
def k0_dev42 (d0 : Dev nD) : Nat :=
  let c0_i32_1383 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_1382 : BitVec 32 := 1#32
  let v1245 : BitVec 32 := Scalar.muli v5 c1_i32_1382
  let v1246 : BitVec 32 := Scalar.addi c0_i32_1383 v1245
  v1246.toNat
def k0_dev43 (d0 : Dev nD) : Nat :=
  let c0_i32_1404 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v1255 : BitVec 32 := Scalar.subi v2 c10_i32
  let c32_i32_1388 : BitVec 32 := 32#32
  let v1256 : BitVec 32 := Scalar.addi v1255 c32_i32_1388
  let c32_i32_1389 : BitVec 32 := 32#32
  let v1257 : BitVec 32 := Scalar.remsi v1256 c32_i32_1389
  let c1_i32_1403 : BitVec 32 := 1#32
  let v1268 : BitVec 32 := Scalar.muli v1257 c1_i32_1403
  let v1269 : BitVec 32 := Scalar.addi c0_i32_1404 v1268
  v1269.toNat
def k0_dev44 (d0 : Dev nD) : Nat :=
  let c0_i32_1426 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_1409 : BitVec 32 := 10#32
  let v1278 : BitVec 32 := Scalar.addi v2 c10_i32_1409
  let c32_i32_1410 : BitVec 32 := 32#32
  let v1279 : BitVec 32 := Scalar.remsi v1278 c32_i32_1410
  let c1_i32_1425 : BitVec 32 := 1#32
  let v1290 : BitVec 32 := Scalar.muli v1279 c1_i32_1425
  let v1291 : BitVec 32 := Scalar.addi c0_i32_1426 v1290
  v1291.toNat
def k0_dev45 (d0 : Dev nD) : Nat :=
  let c0_i32_1527 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1526 : BitVec 32 := 1#32
  let v1373 : BitVec 32 := Scalar.muli v7 c1_i32_1526
  let v1374 : BitVec 32 := Scalar.addi c0_i32_1527 v1373
  v1374.toNat
def k0_dev46 (d0 : Dev nD) : Nat :=
  let c0_i32_1537 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_1536 : BitVec 32 := 1#32
  let v1383 : BitVec 32 := Scalar.muli v5 c1_i32_1536
  let v1384 : BitVec 32 := Scalar.addi c0_i32_1537 v1383
  v1384.toNat
def k0_dev47 (d0 : Dev nD) : Nat :=
  let c0_i32_1558 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v1393 : BitVec 32 := Scalar.subi v2 c11_i32
  let c32_i32_1542 : BitVec 32 := 32#32
  let v1394 : BitVec 32 := Scalar.addi v1393 c32_i32_1542
  let c32_i32_1543 : BitVec 32 := 32#32
  let v1395 : BitVec 32 := Scalar.remsi v1394 c32_i32_1543
  let c1_i32_1557 : BitVec 32 := 1#32
  let v1406 : BitVec 32 := Scalar.muli v1395 c1_i32_1557
  let v1407 : BitVec 32 := Scalar.addi c0_i32_1558 v1406
  v1407.toNat
def k0_dev48 (d0 : Dev nD) : Nat :=
  let c0_i32_1580 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_1563 : BitVec 32 := 11#32
  let v1416 : BitVec 32 := Scalar.addi v2 c11_i32_1563
  let c32_i32_1564 : BitVec 32 := 32#32
  let v1417 : BitVec 32 := Scalar.remsi v1416 c32_i32_1564
  let c1_i32_1579 : BitVec 32 := 1#32
  let v1428 : BitVec 32 := Scalar.muli v1417 c1_i32_1579
  let v1429 : BitVec 32 := Scalar.addi c0_i32_1580 v1428
  v1429.toNat
def k0_dev49 (d0 : Dev nD) : Nat :=
  let c0_i32_1681 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1680 : BitVec 32 := 1#32
  let v1511 : BitVec 32 := Scalar.muli v7 c1_i32_1680
  let v1512 : BitVec 32 := Scalar.addi c0_i32_1681 v1511
  v1512.toNat
def k0_dev50 (d0 : Dev nD) : Nat :=
  let c0_i32_1691 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_1690 : BitVec 32 := 1#32
  let v1521 : BitVec 32 := Scalar.muli v5 c1_i32_1690
  let v1522 : BitVec 32 := Scalar.addi c0_i32_1691 v1521
  v1522.toNat
def k0_dev51 (d0 : Dev nD) : Nat :=
  let c0_i32_1712 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v1531 : BitVec 32 := Scalar.subi v2 c12_i32
  let c32_i32_1696 : BitVec 32 := 32#32
  let v1532 : BitVec 32 := Scalar.addi v1531 c32_i32_1696
  let c32_i32_1697 : BitVec 32 := 32#32
  let v1533 : BitVec 32 := Scalar.remsi v1532 c32_i32_1697
  let c1_i32_1711 : BitVec 32 := 1#32
  let v1544 : BitVec 32 := Scalar.muli v1533 c1_i32_1711
  let v1545 : BitVec 32 := Scalar.addi c0_i32_1712 v1544
  v1545.toNat
def k0_dev52 (d0 : Dev nD) : Nat :=
  let c0_i32_1734 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_1717 : BitVec 32 := 12#32
  let v1554 : BitVec 32 := Scalar.addi v2 c12_i32_1717
  let c32_i32_1718 : BitVec 32 := 32#32
  let v1555 : BitVec 32 := Scalar.remsi v1554 c32_i32_1718
  let c1_i32_1733 : BitVec 32 := 1#32
  let v1566 : BitVec 32 := Scalar.muli v1555 c1_i32_1733
  let v1567 : BitVec 32 := Scalar.addi c0_i32_1734 v1566
  v1567.toNat
def k0_dev53 (d0 : Dev nD) : Nat :=
  let c0_i32_1835 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1834 : BitVec 32 := 1#32
  let v1649 : BitVec 32 := Scalar.muli v7 c1_i32_1834
  let v1650 : BitVec 32 := Scalar.addi c0_i32_1835 v1649
  v1650.toNat
def k0_dev54 (d0 : Dev nD) : Nat :=
  let c0_i32_1845 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_1844 : BitVec 32 := 1#32
  let v1659 : BitVec 32 := Scalar.muli v5 c1_i32_1844
  let v1660 : BitVec 32 := Scalar.addi c0_i32_1845 v1659
  v1660.toNat
def k0_dev55 (d0 : Dev nD) : Nat :=
  let c0_i32_1866 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v1669 : BitVec 32 := Scalar.subi v2 c13_i32
  let c32_i32_1850 : BitVec 32 := 32#32
  let v1670 : BitVec 32 := Scalar.addi v1669 c32_i32_1850
  let c32_i32_1851 : BitVec 32 := 32#32
  let v1671 : BitVec 32 := Scalar.remsi v1670 c32_i32_1851
  let c1_i32_1865 : BitVec 32 := 1#32
  let v1682 : BitVec 32 := Scalar.muli v1671 c1_i32_1865
  let v1683 : BitVec 32 := Scalar.addi c0_i32_1866 v1682
  v1683.toNat
def k0_dev56 (d0 : Dev nD) : Nat :=
  let c0_i32_1888 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_1871 : BitVec 32 := 13#32
  let v1692 : BitVec 32 := Scalar.addi v2 c13_i32_1871
  let c32_i32_1872 : BitVec 32 := 32#32
  let v1693 : BitVec 32 := Scalar.remsi v1692 c32_i32_1872
  let c1_i32_1887 : BitVec 32 := 1#32
  let v1704 : BitVec 32 := Scalar.muli v1693 c1_i32_1887
  let v1705 : BitVec 32 := Scalar.addi c0_i32_1888 v1704
  v1705.toNat
def k0_dev57 (d0 : Dev nD) : Nat :=
  let c0_i32_1989 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1988 : BitVec 32 := 1#32
  let v1787 : BitVec 32 := Scalar.muli v7 c1_i32_1988
  let v1788 : BitVec 32 := Scalar.addi c0_i32_1989 v1787
  v1788.toNat
def k0_dev58 (d0 : Dev nD) : Nat :=
  let c0_i32_1999 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_1998 : BitVec 32 := 1#32
  let v1797 : BitVec 32 := Scalar.muli v5 c1_i32_1998
  let v1798 : BitVec 32 := Scalar.addi c0_i32_1999 v1797
  v1798.toNat
def k0_dev59 (d0 : Dev nD) : Nat :=
  let c0_i32_2020 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v1807 : BitVec 32 := Scalar.subi v2 c14_i32
  let c32_i32_2004 : BitVec 32 := 32#32
  let v1808 : BitVec 32 := Scalar.addi v1807 c32_i32_2004
  let c32_i32_2005 : BitVec 32 := 32#32
  let v1809 : BitVec 32 := Scalar.remsi v1808 c32_i32_2005
  let c1_i32_2019 : BitVec 32 := 1#32
  let v1820 : BitVec 32 := Scalar.muli v1809 c1_i32_2019
  let v1821 : BitVec 32 := Scalar.addi c0_i32_2020 v1820
  v1821.toNat
def k0_dev60 (d0 : Dev nD) : Nat :=
  let c0_i32_2042 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_2025 : BitVec 32 := 14#32
  let v1830 : BitVec 32 := Scalar.addi v2 c14_i32_2025
  let c32_i32_2026 : BitVec 32 := 32#32
  let v1831 : BitVec 32 := Scalar.remsi v1830 c32_i32_2026
  let c1_i32_2041 : BitVec 32 := 1#32
  let v1842 : BitVec 32 := Scalar.muli v1831 c1_i32_2041
  let v1843 : BitVec 32 := Scalar.addi c0_i32_2042 v1842
  v1843.toNat
def k0_dev61 (d0 : Dev nD) : Nat :=
  let c0_i32_2143 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2142 : BitVec 32 := 1#32
  let v1925 : BitVec 32 := Scalar.muli v7 c1_i32_2142
  let v1926 : BitVec 32 := Scalar.addi c0_i32_2143 v1925
  v1926.toNat
def k0_dev62 (d0 : Dev nD) : Nat :=
  let c0_i32_2164 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v1935 : BitVec 32 := Scalar.subi v2 c15_i32
  let c32_i32_2148 : BitVec 32 := 32#32
  let v1936 : BitVec 32 := Scalar.addi v1935 c32_i32_2148
  let c32_i32_2149 : BitVec 32 := 32#32
  let v1937 : BitVec 32 := Scalar.remsi v1936 c32_i32_2149
  let c1_i32_2163 : BitVec 32 := 1#32
  let v1948 : BitVec 32 := Scalar.muli v1937 c1_i32_2163
  let v1949 : BitVec 32 := Scalar.addi c0_i32_2164 v1948
  v1949.toNat
def k0_dev63 (d0 : Dev nD) : Nat :=
  let c0_i32_2186 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_2169 : BitVec 32 := 15#32
  let v1958 : BitVec 32 := Scalar.addi v2 c15_i32_2169
  let c32_i32_2170 : BitVec 32 := 32#32
  let v1959 : BitVec 32 := Scalar.remsi v1958 c32_i32_2170
  let c1_i32_2185 : BitVec 32 := 1#32
  let v1970 : BitVec 32 := Scalar.muli v1959 c1_i32_2185
  let v1971 : BitVec 32 := Scalar.addi c0_i32_2186 v1970
  v1971.toNat
def k0_dev64 (d0 : Dev nD) : Nat :=
  let c0_i32_2279 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v2039 : BitVec 32 := Scalar.subi v2 c16_i32
  let c32_i32_2263 : BitVec 32 := 32#32
  let v2040 : BitVec 32 := Scalar.addi v2039 c32_i32_2263
  let c32_i32_2264 : BitVec 32 := 32#32
  let v2041 : BitVec 32 := Scalar.remsi v2040 c32_i32_2264
  let c1_i32_2278 : BitVec 32 := 1#32
  let v2052 : BitVec 32 := Scalar.muli v2041 c1_i32_2278
  let v2053 : BitVec 32 := Scalar.addi c0_i32_2279 v2052
  v2053.toNat
abbrev stage0_0 : Fin 1 → Memref sig .tc .vmem S256x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8192x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S8192x8192 : Shape := ⟨2, ![8192, 8192]⟩
abbrev S8192x4096 : Shape := ⟨2, ![8192, 4096]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S8192x8192, .bf16⟩
  | .hbm, ⟨1, _⟩ => ⟨S8192x4096, .bf16⟩
  | .hbm, ⟨2, _⟩ => ⟨S8192x4096, .f32⟩
  | .hbm, ⟨3, _⟩ => ⟨S8192x4096, .bf16⟩
  | .hbm, ⟨4, _⟩ => ⟨S8192x4096, .f32⟩
  | .hbm, ⟨5, _⟩ => ⟨S_, .f32⟩
  | .hbm, ⟨6, _⟩ => ⟨S8192x4096, .f32⟩
  | .hbm, ⟨7, _⟩ => ⟨S8192x4096, .f32⟩
  | _, _ => ⟨S8192x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Proof.KernelIdeal.Program.lean ====
/-
The body of the kernel read as its protocol.

The kernel moves the weight blocks round a ring of 32 devices in both directions, in 16 steps, and at every
step multiplies its own rows by the two blocks it holds, sends the two products to the devices they belong to
and writes the products sent to it into its result. The printed body is those steps written out one after the
other. Here each kind of operation is written once, over the slot it works on, and `body_eq` states that the
printed body is the sequence of them.
-/
module

public import proofs.«01_k».proof.Proof.Gen.KernelIdeal.Skeleton
public import Idealize.ShloMosaic.Lib.Pipeline.Regions

@[expose] public section

noncomputable section

namespace Cert.KernelIdeal.Ring

open Cert.KernelIdeal Cert.KernelIdeal.Gen
open Idealize.ShloMosaic Idealize.SL.Sem
open Idealize.ShloMosaic.TcCoe

variable {F : FTy → Type} [FloatOps F]

/-! ## Stacks of slots -/

/-- A stack of `n` slots of `R` rows of 128 lanes, -/
abbrev Stk (n R : ℕ) : Shape := ⟨3, ![n, R, 128]⟩
/-- one slot of it as a slab of the stack, -/
abbrev Slab (R : ℕ) : Shape := ⟨3, ![1, R, 128]⟩
/-- one slot as a matrix, -/
abbrev Flat (R : ℕ) : Shape := ⟨2, ![R, 128]⟩
/-- and a row of `n` semaphores. -/
abbrev Cnt (n : ℕ) : Shape := ⟨1, ![n]⟩

theorem inbStk {n R k : ℕ} (h : k < n) : ∀ a, (![k, 0, 0] : Fin 3 → Nat) a + (Slab R).size a ≤ (Stk n R).size a := by
  intro a
  fin_cases a
  · show k + 1 ≤ n; omega
  · show 0 + R ≤ R; omega
  · show 0 + 128 ≤ 128; omega

theorem inbCnt {n k : ℕ} (h : k < n) : ∀ a, (![k] : Fin 1 → Nat) a + S1.size a ≤ (Cnt n).size a := by
  intro a
  fin_cases a
  show k + 1 ≤ n; omega

/-- Slot `k` as a rectangle of the stack. -/
abbrev slabR {n : ℕ} (R : ℕ) {k : ℕ} (h : k < n) : Rect (Stk n R) := Rect.unit (s := Stk n R) ![k, 0, 0] (Slab R).size (inbStk h)

theorem slab_words {n R k : ℕ} (h : k < n) (p : ℕ) : (slabR R h).WholeWords p := .inr ⟨(by decide : 2 ≤ 3), rfl, rfl, rfl⟩
theorem slab_packed {n R k : ℕ} (h : k < n) (p : ℕ) : (slabR R h).PackedRows p := .inr ⟨(by decide : 2 ≤ 3), rfl, .inr ⟨rfl, rfl, rfl, rfl, rfl⟩⟩
theorem slab_squeezes (R : ℕ) : (Slab R).Squeezes (Flat R) := by
  simp [Shape.Squeezes, Shape.dropsOnes, List.ofFn_succ]

/-- Slot `k` of the stack `M`, as the matrix a transfer reads or writes. -/
abbrev slot {n R : ℕ} (M : Memref sig .tc .vmem (Stk n R) .bf16) {k : ℕ} (h : k < n) : Memref sig .tc .vmem (Flat R) .bf16 :=
  (M.slice (slabR R h) (fun _ => rfl)).squeeze (Flat R) (slab_squeezes R)

theorem slot_words {n R : ℕ} {M : Memref sig .tc .vmem (Stk n R) .bf16} (hM : M.IsWhole) {k : ℕ} (h : k < n) : (slot M h).view.WordExact :=
  (hM.wordExact_slice rfl _ (slab_words h _)).reshape _ _

/-- Semaphore `k` of a row of semaphores. -/
abbrev semAt {n : ℕ} (A : DmaSems sig (Cnt n)) {k : ℕ} (h : k < n) : DmaSem sig :=
  ((A.slice (Rect.unit (s := Cnt n) ![k] S1.size (inbCnt h))).squeeze S_ squeezes_S1_S_).sem

/-! ## The operations -/

/-- The operations of a body. -/
abbrev Eff (F : FTy → Type) : Type → Type _ := TpuEff nD τ sig (Elt F) Λ₀ .tc

/-- Start the transfer of slot `k` of `A` into slot `j` of `B` on device `d`, counted on semaphore `k` of `sA` here and
    on semaphore `j` of `sB` there. -/
abbrev putE {n R : ℕ} (A B : Memref sig .tc .vmem (Stk n R) .bf16) (hA : A.IsWhole) (hB : B.IsWhole) (sA sB : DmaSems sig (Cnt n))
    {k j : ℕ} (hk : k < n) (hj : j < n) (d : Dev nD) : (Eff F) PUnit :=
  .enqueueDma (slot A hk) (.remote (Dev.tc d) (slot B hj) (.dma (semAt sA hk))) (.dma (semAt sB hj))
    (slot_words hA hk) (slot_words hB hj) ⟨⟨rfl, Or.inl rfl⟩, trivial⟩

/-- Wait until that transfer has left, -/
abbrev leftE {n R : ℕ} (A B : Memref sig .tc .vmem (Stk n R) .bf16) (hA : A.IsWhole) (hB : B.IsWhole) (sA : DmaSems sig (Cnt n))
    {k j : ℕ} (hk : k < n) (hj : j < n) : (Eff F) PUnit :=
  .waitDma2 (semAt sA hk) (slot B hj) (slot A hk) (slot_words hB hj) (slot_words hA hk)

/-- and until the like transfer from the other side has landed here. -/
abbrev landE {n R : ℕ} (A B : Memref sig .tc .vmem (Stk n R) .bf16) (hA : A.IsWhole) (hB : B.IsWhole) (sB : DmaSems sig (Cnt n))
    {k j : ℕ} (hk : k < n) (hj : j < n) : (Eff F) PUnit :=
  .waitDma2 (semAt sB hj) (slot A hk) (slot B hj) (slot_words hA hk) (slot_words hB hj)

/-- Load slot `k`, -/
abbrev getE {n R : ℕ} (A : Memref sig .tc .vmem (Stk n R) .bf16) (hR : 0 < (Slab R).numel) {k : ℕ} (hk : k < n) : (Eff F) (Vec F (Slab R) .bf16) :=
  .load A (slabR R hk).toLoadRect (View.loadsAt_vmem hR)
/-- and store it. -/
abbrev setE {n R : ℕ} (A : Memref sig .tc .vmem (Stk n R) .bf16) (hA : A.IsWhole) (hR : 0 < (Slab R).numel) {k : ℕ} (hk : k < n)
    (v : FVec F (Slab R) .bf16) : (Eff F) PUnit :=
  .store A (slabR R hk) v Finset.univ (View.stores_vmem hR (hA.storeExact_slice rfl _ (slab_packed hk _)) (fun _ => rfl)) (.inl rfl)

/-- Load the 256 rows of the result at `off`, -/
abbrev outGetE (O : Memref sig .tc .vmem S8192x128 .f32) (off : Fin 2 → ℕ) (h : ∀ a, off a + S256x128.size a ≤ S8192x128.size a) : (Eff F) (Vec F S256x128 .f32) :=
  .load O (Rect.unit (s := S8192x128) off S256x128.size h).toLoadRect (View.loadsAt_vmem h_S256x128)
/-- and store them. -/
abbrev outSetE (O : Memref sig .tc .vmem S8192x128 .f32) (off : Fin 2 → ℕ) (h : ∀ a, off a + S256x128.size a ≤ S8192x128.size a) (v : FVec F S256x128 .f32) : (Eff F) PUnit :=
  .store O (Rect.unit (s := S8192x128) off S256x128.size h) v Finset.univ (View.stores_vmem_bits_univ h_S256x128 rfl) (.inl rfl)

abbrev xGetE (X : Memref sig .tc .vmem S256x8192 .bf16) : (Eff F) (Vec F S256x8192 .bf16) :=
  .load X (Rect.unit (s := S256x8192) ![0, 0] S256x8192.size inb_S256x8192_S256x8192_0_0).toLoadRect (View.loadsAt_vmem h_S256x8192)
abbrev xSetE (X : Memref sig .tc .vmem S256x8192 .bf16) (hX : X.IsWhole) (v : FVec F S256x8192 .bf16) : (Eff F) PUnit :=
  .store X (Rect.unit (s := S256x8192) ![0, 0] S256x8192.size inb_S256x8192_S256x8192_0_0) v Finset.univ
    (View.stores_vmem h_S256x8192 (hX.storeExact_slice rfl _ packedbf16_S256x8192_S256x8192_0_0) (fun _ => rfl)) (.inl rfl)
abbrev wGetE (X : Memref sig .tc .vmem S8192x128 .bf16) : (Eff F) (Vec F S8192x128 .bf16) :=
  .load X (Rect.unit (s := S8192x128) ![0, 0] S8192x128.size inb_S8192x128_S8192x128_0_0).toLoadRect (View.loadsAt_vmem h_S8192x128)

theorem mod3 (s : ℕ) : s % 3 < 3 := Nat.mod_lt _ (by decide)

/-! ## The buffers and semaphores, by direction

`true` is the ring to the right, on which the weight blocks go to the next device, `false` the ring to the left. -/

/-- The last step at which a block is passed on, -/
def last (b : Bool) : ℕ := match b with | true => 15 | false => 14
/-- and the number of slots of products, one per step and slot 0 unused. -/
def cnt (b : Bool) : ℕ := match b with | true => 17 | false => 16

theorem cnt_eq (b : Bool) : cnt b = last b + 2 := by cases b <;> rfl

/-- The operands' and the result's blocks. -/
abbrev xIn : Memref sig .tc .vmem S256x8192 .bf16 := Memref.whole cc0_stg0_0
abbrev wIn : Memref sig .tc .vmem S8192x128 .bf16 := Memref.whole cc0_stg1_0
abbrev outM : Memref sig .tc .vmem S8192x128 .f32 := Memref.whole cc0_stg2_0
/-- The working copy of the device's rows. -/
abbrev xM : Memref sig .tc .vmem S256x8192 .bf16 := Memref.whole cc0_scratch2
theorem xM_whole : xM.IsWhole := Memref.isWhole_whole _

/-- The weight blocks' three slots, -/
def aM (b : Bool) : Memref sig .tc .vmem (Stk 3 8192) .bf16 := match b with | true => Memref.whole cc0_scratch0 | false => Memref.whole cc0_scratch1
/-- the products to be sent, -/
def pM (b : Bool) : Memref sig .tc .vmem (Stk (cnt b) 256) .bf16 := match b with | true => Memref.whole cc0_scratch3 | false => Memref.whole cc0_scratch5
/-- and the products received. -/
def qM (b : Bool) : Memref sig .tc .vmem (Stk (cnt b) 256) .bf16 := match b with | true => Memref.whole cc0_scratch4 | false => Memref.whole cc0_scratch6

theorem aM_whole (b : Bool) : (aM b).IsWhole := by cases b <;> exact Memref.isWhole_whole _
theorem pM_whole (b : Bool) : (pM b).IsWhole := by cases b <;> exact Memref.isWhole_whole _
theorem qM_whole (b : Bool) : (qM b).IsWhole := by cases b <;> exact Memref.isWhole_whole _

/-- The semaphores of the weight blocks leaving and landing, -/
def sndS (b : Bool) : DmaSems sig (Cnt 3) := match b with | true => cc0_scratch7 | false => cc0_scratch9
def rcvS (b : Bool) : DmaSems sig (Cnt 3) := match b with | true => cc0_scratch8 | false => cc0_scratch10
/-- of the products leaving and landing, -/
def psdS (b : Bool) : DmaSems sig (Cnt (cnt b)) := match b with | true => cc0_scratch11 | false => cc0_scratch13
def prcS (b : Bool) : DmaSems sig (Cnt (cnt b)) := match b with | true => cc0_scratch12 | false => cc0_scratch14
/-- and the barrier's. -/
abbrev barS : Sem sig := (SemArray.scalar (sig.barrier 0 rfl) : Sems sig S_).sem

/-! ## The pieces of the body, each over the rest `K` of it -/

/-- Step `s`'s transfer of a weight block to the neighbour `d`. -/
def put (b : Bool) (s : ℕ) (d : Dev nD) (K : Prog (Eff F) PUnit) : Prog (Eff F) PUnit :=
  .op (putE (aM b) (aM b) (aM_whole b) (aM_whole b) (sndS b) (rcvS b) (mod3 s) (mod3 (s + 1)) d) fun _ => K

/-- The wait for it and for the block the other neighbour sends. -/
def settle (b : Bool) (s : ℕ) (K : Prog (Eff F) PUnit) : Prog (Eff F) PUnit :=
  .op (leftE (aM b) (aM b) (aM_whole b) (aM_whole b) (sndS b) (mod3 s) (mod3 (s + 1))) fun _ =>
  .op (landE (aM b) (aM b) (aM_whole b) (aM_whole b) (rcvS b) (mod3 s) (mod3 (s + 1))) fun _ => K

/-- The product of step `s`, of the device's rows by the block in slot `s % 3`, sent to slot `s` on device `d`. -/
def produce (b : Bool) (s : ℕ) (hs : s < cnt b) (d : Dev nD) (K : Prog (Eff F) PUnit) : Prog (Eff F) PUnit :=
  .op (getE (aM b) h_S1x8192x128 (mod3 s)) fun v =>
  .op (xGetE xM) fun x =>
  .op (getE (pM b) h_S1x256x128 hs) fun _ =>
  .op (setE (pM b) (pM_whole b) h_S1x256x128 hs (k0_pay7 v x)) fun _ =>
  .op (putE (pM b) (qM b) (pM_whole b) (qM_whole b) (psdS b) (prcS b) hs hs d) fun _ => K

/-- The product of step `s` awaited, both the one sent and the one received, and written to the result at `off`. -/
def collect (b : Bool) (s : ℕ) (hs : s < cnt b) (off : Fin 2 → ℕ) (h : ∀ a, off a + S256x128.size a ≤ S8192x128.size a) (K : Prog (Eff F) PUnit) : Prog (Eff F) PUnit :=
  .op (leftE (pM b) (qM b) (pM_whole b) (qM_whole b) (psdS b) hs hs) fun _ =>
  .op (landE (pM b) (qM b) (pM_whole b) (qM_whole b) (prcS b) hs hs) fun _ =>
  .op (getE (qM b) h_S1x256x128 hs) fun v =>
  .op (outGetE outM off h) fun _ =>
  .op (outSetE outM off h (k0_pay1 v)) fun _ => K

/-- The device's own block of the result. -/
def own (off : Fin 2 → ℕ) (h : ∀ a, off a + S256x128.size a ≤ S8192x128.size a) (K : Prog (Eff F) PUnit) : Prog (Eff F) PUnit :=
  .op (getE (aM true) h_S1x8192x128 (mod3 0)) fun v =>
  .op (xGetE xM) fun x =>
  .op (outGetE outM off h) fun _ =>
  .op (outSetE outM off h (k0_pay6 v x)) fun _ => K

/-- The handshake with both neighbours `l` and `r`. -/
def handshake (l r : Dev nD) (K : Prog (Eff F) PUnit) : Prog (Eff F) PUnit :=
  .op (.semSignal (Dev.tc l) barS (1#32 : BitVec 32).toInt) fun _ =>
  .op (.semSignal (Dev.tc r) barS (1#32 : BitVec 32).toInt) fun _ =>
  .op (.semWait barS (2#32 : BitVec 32).toInt) fun _ => K

/-- The operands copied into the working buffers. -/
def stage (K : Prog (Eff F) PUnit) : Prog (Eff F) PUnit :=
  .op (xGetE xIn) fun x =>
  .op (xGetE xM) fun _ =>
  .op (xSetE xM xM_whole (k0_pay2 x)) fun _ =>
  .op (wGetE wIn) fun w =>
  .op (getE (aM true) h_S1x8192x128 (mod3 0)) fun _ =>
  .op (setE (aM true) (aM_whole true) h_S1x8192x128 (mod3 0) (k0_pay4 w)) fun _ =>
  .op (getE (aM false) h_S1x8192x128 (mod3 0)) fun _ =>
  .op (setE (aM false) (aM_whole false) h_S1x8192x128 (mod3 0) (k0_pay5 w)) fun _ => K

/-! ## The steps -/

/-- Step 0: both blocks passed on, the device's own block of the result made. -/
def first (n p : Dev nD) (off : Fin 2 → ℕ) (h : ∀ a, off a + S256x128.size a ≤ S8192x128.size a) (K : Prog (Eff F) PUnit) : Prog (Eff F) PUnit :=
  put true 0 n <| put false 0 p <| own off h <| settle true 0 <| settle false 0 K

/-- Steps 1 and 2: both blocks passed on, both products sent. -/
def early (s : ℕ) (hs : s < 14) (n p l r : Dev nD) (K : Prog (Eff F) PUnit) : Prog (Eff F) PUnit :=
  put true s n <| put false s p <| produce true s (by show s < 17; omega) l <| produce false s (by show s < 16; omega) r <|
  settle true s <| settle false s K

/-- Steps 3 to 14, `s = k + 2`: the same, and the products of step `k` collected. -/
def mid (k : ℕ) (hk : k < 13) (n p l r : Dev nD) (offR offL : Fin 2 → ℕ) (hR : ∀ a, offR a + S256x128.size a ≤ S8192x128.size a)
    (hL : ∀ a, offL a + S256x128.size a ≤ S8192x128.size a) (K : Prog (Eff F) PUnit) : Prog (Eff F) PUnit :=
  put true (k + 2) n <| put false (k + 2) p <| produce true (k + 2) (by show k + 2 < 17; omega) l <| produce false (k + 2) (by show k + 2 < 16; omega) r <|
  collect true k (by show k < 17; omega) offR hR <| collect false k (by show k < 16; omega) offL hL <|
  settle true (k + 2) <| settle false (k + 2) K

/-- The whole body on device `d0`, its pieces in order. -/
def steps (d0 : Dev nD) : Prog (Eff F) PUnit :=
  handshake ⟨k0_dev1 d0, k0_dev1_lt d0⟩ ⟨k0_dev2 d0, k0_dev2_lt d0⟩ <|
  stage <|
  first ⟨k0_dev3 d0, k0_dev3_lt d0⟩ ⟨k0_dev4 d0, k0_dev4_lt d0⟩ (k0_off1 d0) (k0_off1_inb d0) <|
  early 1 (by decide) ⟨k0_dev5 d0, k0_dev5_lt d0⟩ ⟨k0_dev6 d0, k0_dev6_lt d0⟩ ⟨k0_dev7 d0, k0_dev7_lt d0⟩ ⟨k0_dev8 d0, k0_dev8_lt d0⟩ <|
  early 2 (by decide) ⟨k0_dev9 d0, k0_dev9_lt d0⟩ ⟨k0_dev10 d0, k0_dev10_lt d0⟩ ⟨k0_dev11 d0, k0_dev11_lt d0⟩ ⟨k0_dev12 d0, k0_dev12_lt d0⟩ <|
  mid 1 (by decide) ⟨k0_dev13 d0, k0_dev13_lt d0⟩ ⟨k0_dev14 d0, k0_dev14_lt d0⟩ ⟨k0_dev15 d0, k0_dev15_lt d0⟩ ⟨k0_dev16 d0, k0_dev16_lt d0⟩ (k0_off2 d0 1#32) (k0_off3 d0 1#32) (k0_off2_inb d0 0) (k0_off3_inb d0 0) <|
  mid 2 (by decide) ⟨k0_dev17 d0, k0_dev17_lt d0⟩ ⟨k0_dev18 d0, k0_dev18_lt d0⟩ ⟨k0_dev19 d0, k0_dev19_lt d0⟩ ⟨k0_dev20 d0, k0_dev20_lt d0⟩ (k0_off2 d0 2#32) (k0_off3 d0 2#32) (k0_off2_inb d0 1) (k0_off3_inb d0 1) <|
  mid 3 (by decide) ⟨k0_dev21 d0, k0_dev21_lt d0⟩ ⟨k0_dev22 d0, k0_dev22_lt d0⟩ ⟨k0_dev23 d0, k0_dev23_lt d0⟩ ⟨k0_dev24 d0, k0_dev24_lt d0⟩ (k0_off2 d0 3#32) (k0_off3 d0 3#32) (k0_off2_inb d0 2) (k0_off3_inb d0 2) <|
  mid 4 (by decide) ⟨k0_dev25 d0, k0_dev25_lt d0⟩ ⟨k0_dev26 d0, k0_dev26_lt d0⟩ ⟨k0_dev27 d0, k0_dev27_lt d0⟩ ⟨k0_dev28 d0, k0_dev28_lt d0⟩ (k0_off2 d0 4#32) (k0_off3 d0 4#32) (k0_off2_inb d0 3) (k0_off3_inb d0 3) <|
  mid 5 (by decide) ⟨k0_dev29 d0, k0_dev29_lt d0⟩ ⟨k0_dev30 d0, k0_dev30_lt d0⟩ ⟨k0_dev31 d0, k0_dev31_lt d0⟩ ⟨k0_dev32 d0, k0_dev32_lt d0⟩ (k0_off2 d0 5#32) (k0_off3 d0 5#32) (k0_off2_inb d0 4) (k0_off3_inb d0 4) <|
  mid 6 (by decide) ⟨k0_dev33 d0, k0_dev33_lt d0⟩ ⟨k0_dev34 d0, k0_dev34_lt d0⟩ ⟨k0_dev35 d0, k0_dev35_lt d0⟩ ⟨k0_dev36 d0, k0_dev36_lt d0⟩ (k0_off2 d0 6#32) (k0_off3 d0 6#32) (k0_off2_inb d0 5) (k0_off3_inb d0 5) <|
  mid 7 (by decide) ⟨k0_dev37 d0, k0_dev37_lt d0⟩ ⟨k0_dev38 d0, k0_dev38_lt d0⟩ ⟨k0_dev39 d0, k0_dev39_lt d0⟩ ⟨k0_dev40 d0, k0_dev40_lt d0⟩ (k0_off2 d0 7#32) (k0_off3 d0 7#32) (k0_off2_inb d0 6) (k0_off3_inb d0 6) <|
  mid 8 (by decide) ⟨k0_dev41 d0, k0_dev41_lt d0⟩ ⟨k0_dev42 d0, k0_dev42_lt d0⟩ ⟨k0_dev43 d0, k0_dev43_lt d0⟩ ⟨k0_dev44 d0, k0_dev44_lt d0⟩ (k0_off2 d0 8#32) (k0_off3 d0 8#32) (k0_off2_inb d0 7) (k0_off3_inb d0 7) <|
  mid 9 (by decide) ⟨k0_dev45 d0, k0_dev45_lt d0⟩ ⟨k0_dev46 d0, k0_dev46_lt d0⟩ ⟨k0_dev47 d0, k0_dev47_lt d0⟩ ⟨k0_dev48 d0, k0_dev48_lt d0⟩ (k0_off2 d0 9#32) (k0_off3 d0 9#32) (k0_off2_inb d0 8) (k0_off3_inb d0 8) <|
  mid 10 (by decide) ⟨k0_dev49 d0, k0_dev49_lt d0⟩ ⟨k0_dev50 d0, k0_dev50_lt d0⟩ ⟨k0_dev51 d0, k0_dev51_lt d0⟩ ⟨k0_dev52 d0, k0_dev52_lt d0⟩ (k0_off2 d0 10#32) (k0_off3 d0 10#32) (k0_off2_inb d0 9) (k0_off3_inb d0 9) <|
  mid 11 (by decide) ⟨k0_dev53 d0, k0_dev53_lt d0⟩ ⟨k0_dev54 d0, k0_dev54_lt d0⟩ ⟨k0_dev55 d0, k0_dev55_lt d0⟩ ⟨k0_dev56 d0, k0_dev56_lt d0⟩ (k0_off2 d0 11#32) (k0_off3 d0 11#32) (k0_off2_inb d0 10) (k0_off3_inb d0 10) <|
  mid 12 (by decide) ⟨k0_dev57 d0, k0_dev57_lt d0⟩ ⟨k0_dev58 d0, k0_dev58_lt d0⟩ ⟨k0_dev59 d0, k0_dev59_lt d0⟩ ⟨k0_dev60 d0, k0_dev60_lt d0⟩ (k0_off2 d0 12#32) (k0_off3 d0 12#32) (k0_off2_inb d0 11) (k0_off3_inb d0 11) <|
  put true 15 ⟨k0_dev61 d0, k0_dev61_lt d0⟩ <|
  produce true 15 (by decide) ⟨k0_dev62 d0, k0_dev62_lt d0⟩ <|
  produce false 15 (by decide) ⟨k0_dev63 d0, k0_dev63_lt d0⟩ <|
  collect true 13 (by decide) (k0_off2 d0 13#32) (k0_off2_inb d0 12) <|
  collect false 13 (by decide) (k0_off3 d0 13#32) (k0_off3_inb d0 12) <|
  settle true 15 <|
  produce true 16 (by decide) ⟨k0_dev64 d0, k0_dev64_lt d0⟩ <|
  collect true 14 (by decide) (k0_off2 d0 14#32) (k0_off2_inb d0 13) <|
  collect true 15 (by decide) (k0_off2 d0 15#32) (k0_off2_inb d0 14) <|
  collect true 16 (by decide) (k0_off2 d0 16#32) (k0_off2_inb d0 15) <|
  collect false 14 (by decide) (k0_off3 d0 14#32) (k0_off3_inb d0 13) <|
  collect false 15 (by decide) (k0_off3 d0 15#32) (k0_off3_inb d0 14) <|
  .ret ⟨⟩

set_option maxRecDepth 65536 in
/-- The printed body is that sequence. -/
theorem body_eq :
    cc0_body (F := F) xIn (Memref.isWhole_whole _) wIn (Memref.isWhole_whole _) outM (Memref.isWhole_whole _) (Memref.whole cc0_scratch0) (Memref.isWhole_whole _)
      (Memref.whole cc0_scratch1) (Memref.isWhole_whole _) xM (Memref.isWhole_whole _) (Memref.whole cc0_scratch3) (Memref.isWhole_whole _)
      (Memref.whole cc0_scratch4) (Memref.isWhole_whole _) (Memref.whole cc0_scratch5) (Memref.isWhole_whole _) (Memref.whole cc0_scratch6) (Memref.isWhole_whole _)
      cc0_scratch7 cc0_scratch8 cc0_scratch9 cc0_scratch10 cc0_scratch11 cc0_scratch12 cc0_scratch13 cc0_scratch14
      = .op .deviceId fun d0 => steps d0 := by chain_rfl

end Cert.KernelIdeal.Ring

end
-- ==== Proof.KernelIdeal.Cells.lean ====
/-
The ring's devices, its semaphore cells and what a slot of a buffer holds.
-/
module

public import proofs.«01_k».proof.Proof.KernelIdeal.Program
public import proofs.«01_k».proof.Proof.Gen.KernelIdeal.Launch
public import proofs.«01_k».proof.Proof.Gen.KernelIdeal.Points
public import Idealize.ShloMosaic.Lib.Rounds
public import Idealize.ShloMosaic.Lib.Memref
public import Idealize.ShloMosaic.Lib.MemrefSat
public import Idealize.ShloMosaic.Lib.Writes
public import Idealize.ShloMosaic.Lib.ViewIndex
public import Idealize.ShloMosaic.Lib.Pipeline.Launch
public import Idealize.ShloMosaic.Lib.Pipeline.Sound
public import Idealize.ShloMosaic.Lib.Tactic

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The protocol's rounds beside the pipeline's own. -/
abbrev UB : Type := URounds (GSem nD τ sig) Bool
abbrev UU : Type := UR sig nD τ × UB

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := embR

abbrev 𝒱₀ : Variants := Variants.none

/-! ## The ring of devices -/

set_option backward.proofsInPublic true in
/-- The device `k` places to the right of `c`, -/
def rt (c : Dev nD) (k : ℕ) : Dev nD := ⟨(c.val + k) % 32, Nat.mod_lt _ (by decide)⟩
set_option backward.proofsInPublic true in
/-- and `k ≤ 32` places to its left. -/
def lf (c : Dev nD) (k : ℕ) : Dev nD := ⟨(c.val + (32 - k)) % 32, Nat.mod_lt _ (by decide)⟩

/-- The neighbour a direction sends to, -/
def nxt (b : Bool) (c : Dev nD) : Dev nD := match b with | true => rt c 1 | false => lf c 1
/-- and the device whose weight block `c` holds at step `s`. -/
def org (b : Bool) (c : Dev nD) (s : ℕ) : Dev nD := match b with | true => lf c s | false => rt c s

theorem dev_lt (c : Dev nD) : c.val < 32 := c.isLt

theorem nxt_nxt (b : Bool) (c : Dev nD) : nxt (!b) (nxt b c) = c := by
  have := dev_lt c
  cases b <;> refine Fin.ext ?_ <;> simp only [nxt, rt, lf, Bool.not_true, Bool.not_false] <;> omega
theorem nxt_nxt' (b : Bool) (c : Dev nD) : nxt b (nxt (!b) c) = c := by
  have := nxt_nxt (!b) c; rwa [Bool.not_not] at this
theorem org_zero (b : Bool) (c : Dev nD) : org b c 0 = c := by
  have := dev_lt c
  cases b <;> refine Fin.ext ?_ <;> simp only [org, rt, lf] <;> omega
/-- The block passed on is the one its receiver holds at the next step. -/
theorem org_nxt (b : Bool) (c : Dev nD) {s : ℕ} (h : s < 32) : org b (nxt b c) (s + 1) = org b c s := by
  have := dev_lt c
  cases b <;> refine Fin.ext ?_ <;> simp only [org, nxt, rt, lf] <;> omega
/-- The product `c` makes at step `s` is for the device from which, seen from there, `c` is on the other side. -/
theorem org_org (b : Bool) (c : Dev nD) {s : ℕ} (h : s ≤ 32) : org (!b) (org b c s) s = c := by
  have := dev_lt c
  cases b <;> refine Fin.ext ?_ <;> simp only [org, rt, lf, Bool.not_true, Bool.not_false] <;> omega
theorem org_org' (b : Bool) (c : Dev nD) {s : ℕ} (h : s ≤ 32) : org b (org (!b) c s) s = c := by
  have := org_org (!b) c h; rwa [Bool.not_not] at this
theorem org_ne (b : Bool) (c : Dev nD) {s : ℕ} (h0 : 0 < s) (h : s < 32) : org b c s ≠ c := by
  have := dev_lt c
  intro e
  have e := congrArg Fin.val e
  cases b <;> simp only [org, rt, lf] at e <;> omega

/-! ## The cells -/

/-- What a semaphore is for: the barrier; weight blocks leaving from slot `j` or landing in it; product `k` leaving or landing. -/
inductive Use | bar | snd (b : Bool) (j : ℕ) | rcv (b : Bool) (j : ℕ) | psd (b : Bool) (k : ℕ) | prc (b : Bool) (k : ℕ) | oth
  deriving DecidableEq

/-- The same, from the number of a semaphore. -/
def useN (n : ℕ) : Use :=
  if n < 3 then .oth else if n < 6 then .snd true (n - 3) else if n < 9 then .rcv true (n - 6)
  else if n < 12 then .snd false (n - 9) else if n < 15 then .rcv false (n - 12)
  else if n < 32 then .psd true (n - 15) else if n < 49 then .prc true (n - 32)
  else if n < 65 then .psd false (n - 49) else if n < 81 then .prc false (n - 65) else .oth

def useOf (sm : SemLoc sig) : Use := match sm with | .reg _ => .bar | .dma q => useN q.val

abbrev sndL (b : Bool) {j : ℕ} (h : j < 3) : SemLoc sig := .dma (semAt (sndS b) h)
abbrev rcvL (b : Bool) {j : ℕ} (h : j < 3) : SemLoc sig := .dma (semAt (rcvS b) h)
abbrev psdL (b : Bool) {k : ℕ} (h : k < cnt b) : SemLoc sig := .dma (semAt (psdS b) h)
abbrev prcL (b : Bool) {k : ℕ} (h : k < cnt b) : SemLoc sig := .dma (semAt (prcS b) h)

theorem use_snd (b : Bool) {j : ℕ} (h : j < 3) : useOf (sndL b h) = .snd b j := by
  cases b
  · exact (by decide : ∀ j : Fin 3, useOf (sndL false j.isLt) = .snd false j) ⟨j, h⟩
  · exact (by decide : ∀ j : Fin 3, useOf (sndL true j.isLt) = .snd true j) ⟨j, h⟩
theorem use_rcv (b : Bool) {j : ℕ} (h : j < 3) : useOf (rcvL b h) = .rcv b j := by
  cases b
  · exact (by decide : ∀ j : Fin 3, useOf (rcvL false j.isLt) = .rcv false j) ⟨j, h⟩
  · exact (by decide : ∀ j : Fin 3, useOf (rcvL true j.isLt) = .rcv true j) ⟨j, h⟩
theorem use_psd (b : Bool) {k : ℕ} (h : k < cnt b) : useOf (psdL b h) = .psd b k := by
  cases b
  · exact (by decide : ∀ k : Fin 16, useOf (psdL false k.isLt) = .psd false k) ⟨k, h⟩
  · exact (by decide : ∀ k : Fin 17, useOf (psdL true k.isLt) = .psd true k) ⟨k, h⟩
theorem use_prc (b : Bool) {k : ℕ} (h : k < cnt b) : useOf (prcL b h) = .prc b k := by
  cases b
  · exact (by decide : ∀ k : Fin 16, useOf (prcL false k.isLt) = .prc false k) ⟨k, h⟩
  · exact (by decide : ∀ k : Fin 17, useOf (prcL true k.isLt) = .prc true k) ⟨k, h⟩

/-! ## Slots -/

/-- Slot `k` of the stack `M` as a slab. -/
abbrev slab {n R : ℕ} (M : Memref sig .tc .vmem (Stk n R) .bf16) {k : ℕ} (h : k < n) : Memref sig .tc .vmem (Slab R) .bf16 :=
  M.slice (slabR R h) (fun _ => rfl)

/-- Device `c` holds share `q` of slot `k` of `M`, which contains `V`. -/
def hold (c : Dev nD) {n R : ℕ} (M : Memref sig .tc .vmem (Stk n R) .bf16) {k : ℕ} (h : k < n) (q : PosShare TreeShare) (V : (Slab R).Idx → Elt F .bf16) : sProp 𝕄 :=
  owns (c : Thread nD τ) (slab M h) q V
/-- Device `c` holds slot `k` of `M`, whatever it contains. -/
def free (c : Dev nD) {n R : ℕ} (M : Memref sig .tc .vmem (Stk n R) .bf16) {k : ℕ} (h : k < n) : sProp 𝕄 :=
  iprop(∃ V, hold c M h fullShare V)

section Slots

variable (c : Dev nD) {n R : ℕ} (M : Memref sig .tc .vmem (Stk n R) .bf16) {k : ℕ} (h : k < n) (q : PosShare TreeShare) (V : (Slab R).Idx → Elt F .bf16)

omit [FloatOps F] in
instance hold_storable : BI.Storable (upEmb : UEmb _ 𝕄) (hold c M h q V) := by unfold hold; infer_instance
omit [FloatOps F] in
instance free_storable : BI.Storable (upEmb : UEmb _ 𝕄) (free (F := F) c M h) := by unfold free; infer_instance

omit [FloatOps F] in
theorem free_intro : hold c M h fullShare V ⊢ free (F := F) c M h := by
  unfold free; iintro H; iexists V; iexact H

omit [FloatOps F] in
/-- A slot held is its two halves held. -/
theorem hold_halves : (hold c M h fullShare V : sProp 𝕄) ⊣⊢ iprop(hold c M h fullShare.left V ∗ hold c M h fullShare.right V) :=
  owns_halves (c : Thread nD τ) (slab M h) fullShare V

omit [FloatOps F] in
theorem slot_set {n R : ℕ} (M : Memref sig .tc .vmem (Stk n R) .bf16) {k : ℕ} (h : k < n) : (slot M h).view.set = (slab M h).view.set := by
  simp only [Memref.view_squeeze, View.set_reshape]

/-- Loading a slot held gives what it holds. -/
theorem wp_get {α : Type} {Q : α → sProp 𝕄} (hR : 0 < (Slab R).numel) {K : Vec F (Slab R) .bf16 → Prog (Eff F) α} :
    iprop(hold c M h q V ∗ (hold c M h q V -∗ wp frame (wpE (defs₀ (F := F)) 𝒱₀ (c : Thread nD τ) none) Set.univ (K V) Q))
      ⊢ wp frame (wpE (defs₀ (F := F)) 𝒱₀ (c : Thread nD τ) none) Set.univ (.op (getE M hR h) K) Q := by
  unfold hold owns
  iintro ⟨⟨%f, %hf, H⟩, Hk⟩
  iapply (wp_load_rect 𝒱₀ (c : Thread nD τ) none Set.univ (m := M) (r := slabR R h) (Finset.Subset.refl _)) $$ H
  iintro H
  have e : (M.access (slabR R h)).read (Elt F) f = V := hf
  rw [e]
  iapply Hk
  iexists f; isplitr; · ipureintro; exact hf
  iexact H

/-- Storing into a slot held changes what it holds. -/
theorem wp_set {α : Type} {Q : α → sProp 𝕄} (hM : M.IsWhole) (hR : 0 < (Slab R).numel) {K : PUnit → Prog (Eff F) α} (v : FVec F (Slab R) .bf16) :
    iprop(free c M h ∗ (hold c M h fullShare v -∗ wp frame (wpE (defs₀ (F := F)) 𝒱₀ (c : Thread nD τ) none) Set.univ (K ⟨⟩) Q))
      ⊢ wp frame (wpE (defs₀ (F := F)) 𝒱₀ (c : Thread nD τ) none) Set.univ (.op (setE M hM hR h v) K) Q := by
  unfold free hold owns
  iintro ⟨⟨%V, %f, %hf, H⟩, Hk⟩
  iapply (wp_store 𝒱₀ (c : Thread nD τ) none Set.univ (m := M) (r := slabR R h) (Mk := Finset.univ) (S := (slab M h).view.set) (f := f) (by rw [View.setOn_univ])) $$ H
  iintro H
  iapply Hk
  iexists _; isplitr
  swap
  · iexact H
  ipureintro
  exact View.read_write_univ _ _

omit [FloatOps F] in
/-- What is sent from a slot is what the slot it is sent to then holds. -/
theorem slot_move (A B : Memref sig .tc .vmem (Stk n R) .bf16) {k j : ℕ} (hk : k < n) (hj : j < n) (fs : A.view.ty.Contents (Elt F)) (fd : B.view.ty.Contents (Elt F)) :
    (slab B hj).view.read (Elt F) ((slot B hj).view.write (Elt F) fd ((slot A hk).view.read (Elt F) fs) Finset.univ) = (slab A hk).view.read (Elt F) fs := by
  show (slab B hj).view.read (Elt F) (((slab B hj).view.reshape (Flat R) (slab_squeezes R).numel_eq).write (Elt F) fd _ Finset.univ) = _
  rw [View.write_reshape_univ, View.read_write_univ]
  funext x
  show (slab A hk).view.read (Elt F) fs (Shape.reshapeEquiv _ ((Shape.reshapeEquiv _).symm x)) = _
  rw [Equiv.apply_symm_apply]

/-- Sending a slot held to a slot of device `d` free there, with `X` handed over beside it. -/
theorem wp_send_hold {α : Type} {Q : α → sProp 𝕄} (Rd : Rounds.Schedule (GSem nD τ sig) Bool 𝕄) [∀ g r b, BI.Storable (upEmb : UEmb _ 𝕄) (Rd.payload g r b)] (A B : Memref sig .tc .vmem (Stk n R) .bf16) (hA : A.IsWhole) (hB : B.IsWhole)
    (sA sB : DmaSems sig (Cnt n)) {k j : ℕ} (hk : k < n) (hj : j < n) (d : Dev nD) (K : PUnit → Prog (Eff F) α) (X : sProp 𝕄) {κ₁ κ₂ r₁ r₂ : ℕ}
    (hd₁ : true ∈ Rd.duties ((c : Thread nD τ), .dma (semAt sA hk)) r₁) (hd₂ : true ∈ Rd.duties ((d : Thread nD τ), .dma (semAt sB hj)) r₂)
    (ι ι' N : ℕ) (hN : (slot B hj).view.dmaCredit = N)
    (hk₁ : Rd.amount ((c : Thread nD τ), .dma (semAt sA hk)) r₁ true = N) (hk₂ : Rd.amount ((d : Thread nD τ), .dma (semAt sB hj)) r₂ true = N)
    {O₀ : CellTallies nD τ sig ℕ} (O : CellTallies nD τ sig ℕ) (hO : O₀ = O + tallyAt ((d : Thread nD τ), .dma (semAt sB hj)) ι N) {W : Waits sig ℕ}
    (hpay₁ : hold c A hk q V ⊢ Rd.payload ((c : Thread nD τ), .dma (semAt sA hk)) r₁ true)
    (hpay₂ : iprop(hold d B hj fullShare V ∗ X) ⊢ Rd.payload ((d : Thread nD τ), .dma (semAt sB hj)) r₂ true) :
    iprop(cellInv ER Rd κ₁ ((c : Thread nD τ), .dma (semAt sA hk)) ∗ cellInv ER Rd κ₂ ((d : Thread nD τ), .dma (semAt sB hj))
        ∗ hold c A hk q V ∗ (free d B hj ∗ X) ∗ owes (c : Thread nD τ) O₀ W
        ∗ dutyTok ER ((c : Thread nD τ), .dma (semAt sA hk)) r₁ true ∗ reached ER ((c : Thread nD τ), .dma (semAt sA hk)) r₁
        ∗ dutyTok ER ((d : Thread nD τ), .dma (semAt sB hj)) r₂ true ∗ reached ER ((d : Thread nD τ), .dma (semAt sB hj)) r₂)
      ⊢ iprop(((cred (tallyAt ((c : Thread nD τ), .dma (semAt sA hk)) ι' N) ∗ owes (c : Thread nD τ) O W)
            -∗ wp frame (wpE (defs₀ (F := F)) 𝒱₀ (c : Thread nD τ) none) Set.univ (K ⟨⟩) Q)
          -∗ wp frame (wpE (defs₀ (F := F)) 𝒱₀ (c : Thread nD τ) none) Set.univ (.op (putE A B hA hB sA sB hk hj d) K) Q) := by
  have e₁ : ∀ g, (hold c A hk q ((slab A hk).view.read (Elt F) g) : sProp 𝕄) = ((slot A hk).view.loc (c : Thread nD τ) ↦[(slot A hk).view.set]{q} g) := fun g => by
    rw [slot_set]; exact owns_slice_read (c : Thread nD τ) A q (slabR R hk) (fun _ => rfl) g
  have e₂ : ∀ g, (hold d B hj fullShare ((slab B hj).view.read (Elt F) g) : sProp 𝕄) = ((slot B hj).view.loc (d : Thread nD τ) ↦[(slot B hj).view.set]{fullShare} g) := fun g => by
    rw [slot_set]; exact owns_slice_read (d : Thread nD τ) B fullShare (slabR R hj) (fun _ => rfl) g
  iintro ⟨#HI, #HJ, HA, ⟨HB, HX⟩, Ho, Ht, Hr, Ht', Hr'⟩
  have hA' : hold c A hk q V ⊢ (iprop(∃ f, ⌜(slab A hk).view.read (Elt F) f = V⌝ ∗ hold c A hk q ((slab A hk).view.read (Elt F) f)) : sProp 𝕄) := by
    unfold hold owns
    iintro ⟨%f, %hf, H⟩
    iexists f; isplitr; · ipureintro; exact hf
    iexists f; isplitr; · ipureintro; rfl
    iexact H
  have hB' : free d B hj ⊢ (iprop(∃ f, hold d B hj fullShare ((slab B hj).view.read (Elt F) f)) : sProp 𝕄) := by
    unfold free hold owns
    iintro ⟨%V, %f, %hf, H⟩
    iexists f
    iexists f; isplitr; · ipureintro; rfl
    iexact H
  ihave HA := hA' $$ HA
  icases HA with ⟨%fs, %hfs, HA⟩
  ihave HB := hB' $$ HB
  icases HB with ⟨%fd, HB⟩
  ihave HA := (Entails.of_eq (e₁ fs)) $$ HA
  ihave HB := (Entails.of_eq (e₂ fd)) $$ HB
  iapply (Rounds.wp_send_pointsTo_with 𝒱₀ ER Rd (c : Thread nD τ) none (κ₁ := κ₁) (κ₂ := κ₂) (r₁ := r₁) (r₂ := r₂) (d₁ := true) (d₂ := true) (fs := fs) (fd := fd) (F := X)
    hd₁ hd₂ ι ι' N hN hk₁ hk₂ O hO (W := W)
    (by rw [← e₁, hfs]; exact hpay₁)
    (by rw [← e₂, slot_move, hfs]; exact hpay₂)) $$ [HA HB HX Ho Ht Hr Ht' Hr']
  isplitr; · iexact HI
  isplitr; · iexact HJ
  isplitl [HA]; · iexact HA
  isplitl [HB HX]
  · isplitl [HB]; · iexact HB
    iexact HX
  isplitl [Ho]; · iexact Ho
  isplitl [Ht]; · iexact Ht
  isplitl [Hr]; · iexact Hr
  isplitl [Ht']; · iexact Ht'
  iexact Hr'

end Slots

end Cert.KernelIdeal.Ring

end
-- ==== Proof.KernelIdeal.Schedule.lean ====
/-
The protocol: what each semaphore is raised for, by whom, and what comes with it.

Cell `snd b j` is raised when a weight block has left slot `j`, cell `rcv b j` when one has landed in it; each serves every third
step. With a block come the slots its owner reserved for the products still to be made of it, and, once they are free again,
the slot the receiver may send its own next block of the other direction to. Cells `psd b k` and `prc b k` serve the
products of step `k`.
-/
module

public import proofs.«01_k».proof.Proof.KernelIdeal.Cells

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ)

/-! ## Contents -/

/-- The blocks of the operands device `c` starts with, -/
def xstg (c : Dev nD) : Vec F S256x8192 .bf16 := (win0_0.blk (0 : Fin 1)).view.read (Elt F) (m ((c : Thread nD τ).loc main_arg0))
def wstg (c : Dev nD) : Vec F S8192x128 .bf16 := (win0_1.blk (0 : Fin 1)).view.read (Elt F) (m ((c : Thread nD τ).loc main_arg1))
/-- as they are in the working buffers. -/
def xB (c : Dev nD) : FVec F S256x8192 .bf16 := k0_pay2 (xstg m c)
def wB (c : Dev nD) : FVec F (Slab 8192) .bf16 := k0_pay4 (wstg m c)
/-- The product device `c` makes for device `d`. -/
def prodB (c d : Dev nD) : FVec F (Slab 256) .bf16 := k0_pay7 (wB m d) (xB m c)
/-- The rows of device `o` in the result of device `c`. -/
def band (c o : Dev nD) : FVec F S256x128 .f32 := if o = c then k0_pay6 (wB m c) (xB m c) else k0_pay1 (prodB m o c)

/-! ## Amounts -/

theorem cnt_pos (b : Bool) : 0 < cnt b := by cases b <;> decide

/-- What a weight block is counted as, -/
def amtA (b : Bool) : ℕ := (slot (aM b) (mod3 0)).view.dmaCredit
/-- and a product. -/
def amtP (b : Bool) : ℕ := (slot (qM b) (cnt_pos b)).view.dmaCredit

theorem amtA_pos (b : Bool) : 0 < amtA b := View.dmaCredit_pos _ (by decide)
theorem amtP_pos (b : Bool) : 0 < amtP b := View.dmaCredit_pos _ (by decide)
theorem credit_a (b : Bool) {j : ℕ} (h : j < 3) : (slot (aM b) h).view.dmaCredit = amtA b := by cases b <;> rfl
theorem credit_q (b : Bool) {k : ℕ} (h : k < cnt b) : (slot (qM b) h).view.dmaCredit = amtP b := by cases b <;> rfl
theorem credit_p (b : Bool) {k : ℕ} (h : k < cnt b) : (slot (pM b) h).view.dmaCredit = amtP b := by cases b <;> rfl

/-! ## The cells of a device -/

abbrev barC (c : Dev nD) : GSem nD τ sig := ((c : Thread nD τ), .reg barS)
/-- The cells of step `s`, -/
abbrev sndC (b : Bool) (c : Dev nD) (s : ℕ) : GSem nD τ sig := ((c : Thread nD τ), sndL b (mod3 s))
abbrev rcvC (b : Bool) (c : Dev nD) (s : ℕ) : GSem nD τ sig := ((c : Thread nD τ), rcvL b (mod3 (s + 1)))
/-- and of product `k`. -/
abbrev psdC (b : Bool) (c : Dev nD) {k : ℕ} (h : k < cnt b) : GSem nD τ sig := ((c : Thread nD τ), psdL b h)
abbrev prcC (b : Bool) (c : Dev nD) {k : ℕ} (h : k < cnt b) : GSem nD τ sig := ((c : Thread nD τ), prcL b h)

/-! ## Payloads -/

/-- Slot `k` of `M` free, if there is one. -/
def freeN (c : Dev nD) {n R : ℕ} (M : Memref sig .tc .vmem (Stk n R) .bf16) (k : ℕ) : sProp 𝕄 := if h : k < n then free c M h else iprop(emp)

/-- What device `c` needs to send step `s`'s block on: the slot for it free and its receiver at the round of that step. -/
def room (b : Bool) (c : Dev nD) (s : ℕ) : sProp 𝕄 := iprop(free (nxt b c) (aM b) (mod3 (s + 1)) ∗ reached ER (rcvC b (nxt b c) s) (s / 3))
/-- The slots device `d` reserved for the products of step `s` and later. -/
def grants (b : Bool) (d : Dev nD) (s : ℕ) : sProp 𝕄 := bigSep (Finset.Ico s (cnt b)) fun k => freeN d (qM b) k
/-- The room that comes along with step `s`'s block for the next one of the other direction. -/
def back (b : Bool) (c : Dev nD) (s : ℕ) : sProp 𝕄 := if 1 ≤ s ∧ s + 1 ≤ last (!b) then room (!b) c (s + 1) else iprop(emp)
/-- What lands on device `c` at step `s`. -/
def arrive (b : Bool) (c : Dev nD) (s : ℕ) : sProp 𝕄 :=
  iprop(hold c (aM b) (mod3 (s + 1)) fullShare (wB m (org b c (s + 1))) ∗ grants b (org b c (s + 1)) (s + 1) ∗ back b c s)
/-- What comes back to device `c` when step `s`'s block has left. -/
def depart (b : Bool) (c : Dev nD) (s : ℕ) : sProp 𝕄 := hold c (aM b) (mod3 s) fullShare.right (wB m (org b c s))

/-- What comes with duty `d` of round `r` of a cell of device `c` in use `u`. -/
def payOf (c : Dev nD) (u : Use) (r : ℕ) (d : Bool) : sProp 𝕄 := match u with
  | .bar => iprop(free (nxt d c) (aM d) (mod3 1) ∗ free (nxt d c) (aM d) (mod3 2))
  | .snd b j => depart m b c (3 * r + j)
  | .rcv b j => arrive m b c (3 * r + (j + 2) % 3)
  | .psd b k => freeN c (pM b) k
  | .prc b k => if h : k < cnt b then hold c (qM b) h fullShare (prodB m (org (!b) c k) c) else iprop(emp)
  | .oth => iprop(emp)

def dutOf (u : Use) (r : ℕ) : Finset Bool := match u with
  | .bar => if r = 0 then Finset.univ else ∅
  | .snd b j => if 3 * r + j ≤ last b then {true} else ∅
  | .rcv b j => if 3 * r + (j + 2) % 3 ≤ last b then {true} else ∅
  | .psd _ k => if r = 0 ∧ 1 ≤ k then {true} else ∅
  | .prc _ k => if r = 0 ∧ 1 ≤ k then {true} else ∅
  | .oth => ∅

def amtOf (u : Use) : ℕ := match u with
  | .bar => 1 | .snd b _ => amtA b | .rcv b _ => amtA b | .psd b _ => amtP b | .prc b _ => amtP b | .oth => 1

theorem amtOf_pos (u : Use) : 0 < amtOf u := by
  cases u <;> first | exact Nat.one_pos | exact amtA_pos _ | exact amtP_pos _

omit [FloatOps F] in
instance freeN_storable (c : Dev nD) {n R : ℕ} (M : Memref sig .tc .vmem (Stk n R) .bf16) (k : ℕ) : BI.Storable (upEmb : UEmb _ 𝕄) (freeN (F := F) c M k) := by
  unfold freeN; split <;> infer_instance
omit [FloatOps F] in
instance room_storable (b : Bool) (c : Dev nD) (s : ℕ) : BI.Storable (upEmb : UEmb _ 𝕄) (room (F := F) b c s) := by unfold room; infer_instance
omit [FloatOps F] in
instance grants_storable (b : Bool) (c : Dev nD) (s : ℕ) : BI.Storable (upEmb : UEmb _ 𝕄) (grants (F := F) b c s) := by unfold grants; infer_instance
omit [FloatOps F] in
instance back_storable (b : Bool) (c : Dev nD) (s : ℕ) : BI.Storable (upEmb : UEmb _ 𝕄) (back (F := F) b c s) := by unfold back; split <;> infer_instance
instance arrive_storable (b : Bool) (c : Dev nD) (s : ℕ) : BI.Storable (upEmb : UEmb _ 𝕄) (arrive m b c s) := by unfold arrive; infer_instance
instance depart_storable (b : Bool) (c : Dev nD) (s : ℕ) : BI.Storable (upEmb : UEmb _ 𝕄) (depart m b c s) := by unfold depart; infer_instance
instance payOf_storable (c : Dev nD) (u : Use) (r : ℕ) (d : Bool) : BI.Storable (upEmb : UEmb _ 𝕄) (payOf m c u r d) := by
  cases u <;> dsimp only [payOf] <;> first | infer_instance | (split <;> infer_instance)

/-- The schedule of every cell. -/
def Rd : Rounds.Schedule (GSem nD τ sig) Bool 𝕄 where
  duties g r := if g.1.2 = .tc then dutOf (useOf g.2) r else ∅
  unitless _ := False
  amount g _ _ := amtOf (useOf g.2)
  payload g r d := payOf m g.1.1 (useOf g.2) r d
  amount_pos g _ _ _ := amtOf_pos _

instance Rd_storable (g : GSem nD τ sig) (r : ℕ) (d : Bool) : BI.Storable (upEmb : UEmb _ 𝕄) ((Rd m).payload g r d) :=
  payOf_storable m _ _ _ _

/-! ## The schedule at each cell -/

section At

variable (b : Bool) (c : Dev nD) (s : ℕ)

theorem snd_step : 3 * (s / 3) + s % 3 = s := Nat.div_add_mod s 3
theorem rcv_step : 3 * (s / 3) + ((s + 1) % 3 + 2) % 3 = s := by omega

theorem duties_bar : (Rd m).duties (barC c) 0 = Finset.univ := rfl
theorem duties_bar_later (r : ℕ) (h : 1 ≤ r) : (Rd m).duties (barC c) r = ∅ := by
  show (if r = 0 then Finset.univ else ∅) = (∅ : Finset Bool)
  rw [if_neg (by omega)]
theorem duties_snd (h : s ≤ last b) : (Rd m).duties (sndC b c s) (s / 3) = {true} := by
  show dutOf (useOf (sndL b (mod3 s))) (s / 3) = _
  rw [use_snd]; dsimp only [dutOf]; rw [snd_step, if_pos h]
theorem duties_rcv (h : s ≤ last b) : (Rd m).duties (rcvC b c s) (s / 3) = {true} := by
  show dutOf (useOf (rcvL b (mod3 (s + 1)))) (s / 3) = _
  rw [use_rcv]; dsimp only [dutOf]; rw [rcv_step, if_pos h]
theorem duties_snd_later (h : last b < s) (r : ℕ) (hr : s / 3 ≤ r) : (Rd m).duties (sndC b c s) r = ∅ := by
  show dutOf (useOf (sndL b (mod3 s))) r = _
  rw [use_snd]; dsimp only [dutOf]; rw [if_neg (by omega)]
theorem duties_rcv_later (h : last b < s) (r : ℕ) (hr : s / 3 ≤ r) : (Rd m).duties (rcvC b c s) r = ∅ := by
  show dutOf (useOf (rcvL b (mod3 (s + 1)))) r = _
  rw [use_rcv]; dsimp only [dutOf]; rw [if_neg (by omega)]

variable {s} (hk : s < cnt b)

theorem duties_psd (h : 1 ≤ s) : (Rd m).duties (psdC b c hk) 0 = {true} := by
  show dutOf (useOf (psdL b hk)) 0 = _
  rw [use_psd]; dsimp only [dutOf]; rw [if_pos ⟨rfl, h⟩]
theorem duties_prc (h : 1 ≤ s) : (Rd m).duties (prcC b c hk) 0 = {true} := by
  show dutOf (useOf (prcL b hk)) 0 = _
  rw [use_prc]; dsimp only [dutOf]; rw [if_pos ⟨rfl, h⟩]
theorem duties_psd_later (r : ℕ) (h : 1 ≤ r ∨ s = 0) : (Rd m).duties (psdC b c hk) r = ∅ := by
  show dutOf (useOf (psdL b hk)) r = _
  rw [use_psd]; dsimp only [dutOf]; rw [if_neg (by omega)]
theorem duties_prc_later (r : ℕ) (h : 1 ≤ r ∨ s = 0) : (Rd m).duties (prcC b c hk) r = ∅ := by
  show dutOf (useOf (prcL b hk)) r = _
  rw [use_prc]; dsimp only [dutOf]; rw [if_neg (by omega)]

variable (s) (r : ℕ) (d : Bool)

theorem amount_bar : (Rd m).amount (barC c) r d = 1 := rfl
theorem amount_snd : (Rd m).amount (sndC b c s) r d = amtA b := by
  show amtOf (useOf (sndL b (mod3 s))) = _; rw [use_snd]; rfl
theorem amount_rcv : (Rd m).amount (rcvC b c s) r d = amtA b := by
  show amtOf (useOf (rcvL b (mod3 (s + 1)))) = _; rw [use_rcv]; rfl
variable {s}
theorem amount_psd : (Rd m).amount (psdC b c hk) r d = amtP b := by
  show amtOf (useOf (psdL b hk)) = _; rw [use_psd]; rfl
theorem amount_prc : (Rd m).amount (prcC b c hk) r d = amtP b := by
  show amtOf (useOf (prcL b hk)) = _; rw [use_prc]; rfl

theorem payload_bar : (Rd m).payload (barC c) r d = iprop(free (nxt d c) (aM d) (mod3 1) ∗ free (nxt d c) (aM d) (mod3 2)) := rfl
variable (s)
theorem payload_snd : (Rd m).payload (sndC b c s) (s / 3) d = depart m b c s := by
  show payOf m c (useOf (sndL b (mod3 s))) (s / 3) d = _; rw [use_snd]; dsimp only [payOf]; rw [snd_step]
theorem payload_rcv : (Rd m).payload (rcvC b c s) (s / 3) d = arrive m b c s := by
  show payOf m c (useOf (rcvL b (mod3 (s + 1)))) (s / 3) d = _; rw [use_rcv]; dsimp only [payOf]; rw [rcv_step]
variable {s}
theorem payload_psd : (Rd m).payload (psdC b c hk) r d = free c (pM b) hk := by
  show payOf m c (useOf (psdL b hk)) r d = _; rw [use_psd]; dsimp only [payOf, freeN]; rw [dif_pos hk]
theorem payload_prc : (Rd m).payload (prcC b c hk) r d = hold c (qM b) hk fullShare (prodB m (org (!b) c s) c) := by
  show payOf m c (useOf (prcL b hk)) r d = _; rw [use_prc]; dsimp only [payOf]; rw [dif_pos hk]

variable (s)
theorem expect_bar : (Rd m).expect (barC c) 0 = 2 := by
  unfold Schedule.expect Schedule.amountOf
  rw [duties_bar, Finset.sum_congr rfl fun d _ => amount_bar m c 0 d, Finset.sum_const, Finset.card_univ, Fintype.card_bool, smul_eq_mul]
theorem expect_snd (h : s ≤ last b) : (Rd m).expect (sndC b c s) (s / 3) = amtA b := by
  unfold Schedule.expect Schedule.amountOf; rw [duties_snd m b c s h, Finset.sum_singleton, amount_snd]
theorem expect_rcv (h : s ≤ last b) : (Rd m).expect (rcvC b c s) (s / 3) = amtA b := by
  unfold Schedule.expect Schedule.amountOf; rw [duties_rcv m b c s h, Finset.sum_singleton, amount_rcv]
variable {s}
theorem expect_psd (h : 1 ≤ s) : (Rd m).expect (psdC b c hk) 0 = amtP b := by
  unfold Schedule.expect Schedule.amountOf; rw [duties_psd m b c hk h, Finset.sum_singleton, amount_psd]
theorem expect_prc (h : 1 ≤ s) : (Rd m).expect (prcC b c hk) 0 = amtP b := by
  unfold Schedule.expect Schedule.amountOf; rw [duties_prc m b c hk h, Finset.sum_singleton, amount_prc]

end At

end Cert.KernelIdeal.Ring

end
-- ==== Proof.KernelIdeal.Owed.lean ====
/-
What a device owes, and the levels of what it waits for: what is owed for step `s` lies above what is awaited before it.
The names of the cells and the facts every device knows of all of them.
-/
module

public import proofs.«01_k».proof.Proof.KernelIdeal.Schedule

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ)

/-! ## Levels -/

/-- The indices in use: the steps. -/
def L (g : GSem nD τ sig) : Finset ℕ := if g.1.2 = .tc then Finset.range 17 else ∅
/-- The barrier lies at 1, a block or product of step `s` at `s + 2`, and everything else at 0. -/
def lv (g : GSem nD τ sig) (ι : ℕ) : ℕ := match useOf g.2 with
  | .bar => 1 | .rcv _ _ => ι + 2 | .prc _ _ => ι + 2 | _ => 0

theorem L_of_ne (g : GSem nD τ sig) (h : g.1.2 ≠ .tc) : L g = ∅ := if_neg h
theorem mem_L (c : Dev nD) (sm : SemLoc sig) {ι : ℕ} (h : ι < 17) : ι ∈ L ((c : Thread nD τ), sm) := by
  unfold L; rw [if_pos rfl]; exact Finset.mem_range.mpr h

/-- All that is owed in `O` is above level `n`. -/
def Above (n : ℕ) (O : CellTallies nD τ sig ℕ) : Prop := ∀ g ι, 0 < O g ι → ι ∈ L g ∧ n < lv g ι

theorem above_zero (n : ℕ) : Above n 0 := fun _ _ h => absurd h (Nat.lt_irrefl 0)
theorem above_add {n : ℕ} {O O' : CellTallies nD τ sig ℕ} (h : Above n O) (h' : Above n O') : Above n (O + O') := by
  intro g ι hg
  rw [Pi.add_apply, Finsupp.add_apply] at hg
  rcases Nat.lt_or_ge 0 (O g ι) with h0 | h0
  · exact h g ι h0
  · exact h' g ι (by omega)
theorem above_sum {n : ℕ} {S : Finset ℕ} {T : ℕ → CellTallies nD τ sig ℕ} (h : ∀ t ∈ S, Above n (T t)) : Above n (∑ t ∈ S, T t) := by
  induction S using Finset.induction_on with
  | empty => rw [Finset.sum_empty]; exact above_zero n
  | insert a S ha ih =>
    rw [Finset.sum_insert ha]
    exact above_add (h a (Finset.mem_insert_self _ _)) (ih fun t ht => h t (Finset.mem_insert_of_mem ht))
theorem above_at {n : ℕ} (c : Dev nD) (sm : SemLoc sig) {ι : ℕ} (k : ℕ) (hι : ι < 17) (h : n < lv ((c : Thread nD τ), sm) ι) : Above n (tallyAt ((c : Thread nD τ), sm) ι k) := by
  intro g u hg
  rw [tallyAt_apply] at hg
  by_cases e : g = ((c : Thread nD τ), sm) ∧ u = ι
  · obtain ⟨rfl, rfl⟩ := e; exact ⟨mem_L c sm hι, h⟩
  · rw [if_neg e] at hg; exact absurd hg (Nat.lt_irrefl 0)
theorem above_mono {n n' : ℕ} (h : n' ≤ n) {O : CellTallies nD τ sig ℕ} (hO : Above n O) : Above n' O :=
  fun g ι hg => ⟨(hO g ι hg).1, lt_of_le_of_lt h (hO g ι hg).2⟩

omit [FloatOps F] in
/-- A device may wait for what is not above what it owes. -/
theorem mayWait (c : Dev nD) (sm : SemLoc sig) {ι : ℕ} (hι : ι < 17) {n : ℕ} (hn : lv ((c : Thread nD τ), sm) ι ≤ n) {O : CellTallies nD τ sig ℕ} (hO : Above n O) :
    (levAts L lv : sProp 𝕄) ⊢ MayWait (c : Thread nD τ) sm ι O :=
  MayOwe.of_cut (L := L) (lev := lv) n (fun p hp => by rw [Finset.mem_singleton.mp hp]; exact mem_L c sm hι) (fun g u hg => (hO g u hg).1)
    (fun p hp => by rw [Finset.mem_singleton.mp hp]; exact hn) (fun g u hg => (hO g u hg).2)

theorem lv_bar (c : Dev nD) (ι : ℕ) : lv (barC c) ι = 1 := rfl
theorem lv_snd (b : Bool) (c : Dev nD) (s ι : ℕ) : lv (sndC b c s) ι = 0 := by
  show (match useOf (sndL b (mod3 s)) with | .bar => 1 | .rcv _ _ => ι + 2 | .prc _ _ => ι + 2 | _ => 0) = 0; rw [use_snd]
theorem lv_rcv (b : Bool) (c : Dev nD) (s ι : ℕ) : lv (rcvC b c s) ι = ι + 2 := by
  show (match useOf (rcvL b (mod3 (s + 1))) with | .bar => 1 | .rcv _ _ => ι + 2 | .prc _ _ => ι + 2 | _ => 0) = _; rw [use_rcv]
theorem lv_psd (b : Bool) (c : Dev nD) {k : ℕ} (hk : k < cnt b) (ι : ℕ) : lv (psdC b c hk) ι = 0 := by
  show (match useOf (psdL b hk) with | .bar => 1 | .rcv _ _ => ι + 2 | .prc _ _ => ι + 2 | _ => 0) = 0; rw [use_psd]
theorem lv_prc (b : Bool) (c : Dev nD) {k : ℕ} (hk : k < cnt b) (ι : ℕ) : lv (prcC b c hk) ι = ι + 2 := by
  show (match useOf (prcL b hk) with | .bar => 1 | .rcv _ _ => ι + 2 | .prc _ _ => ι + 2 | _ => 0) = _; rw [use_prc]

/-! ## What is owed -/

/-- For the block of step `s`, to the neighbour, -/
def owesA (b : Bool) (c : Dev nD) (s : ℕ) : CellTallies nD τ sig ℕ := tallyAt (rcvC b (nxt b c) s) s (amtA b)
/-- and for the product of step `s`, to the device whose block it is of; -/
def owesP (b : Bool) (c : Dev nD) (s : ℕ) : CellTallies nD τ sig ℕ := if h : s < cnt b then tallyAt (prcC b (org b c s) h) s (amtP b) else 0
/-- for all blocks from step `s`, and all products. -/
def dueA (b : Bool) (c : Dev nD) (s : ℕ) : CellTallies nD τ sig ℕ := ∑ t ∈ Finset.Ico s (last b + 1), owesA b c t
def dueP (b : Bool) (c : Dev nD) (s : ℕ) : CellTallies nD τ sig ℕ := ∑ t ∈ Finset.Ico s (cnt b), owesP b c t

theorem last_le (b : Bool) : last b ≤ 15 := by cases b <;> decide

theorem above_owesA {n : ℕ} (b : Bool) (c : Dev nD) {s : ℕ} (hs : s ≤ last b) (h : n < s + 2) : Above n (owesA b c s) := by
  have := last_le b
  exact above_at _ _ _ (by omega) (by rw [lv_rcv]; exact h)
theorem above_owesP {n : ℕ} (b : Bool) (c : Dev nD) {s : ℕ} (h : n < s + 2) : Above n (owesP b c s) := by
  have := last_le b; have := cnt_eq b
  unfold owesP
  split
  · exact above_at _ _ _ (by omega) (by rw [lv_prc]; exact h)
  · exact above_zero n
theorem above_dueA {n : ℕ} (b : Bool) (c : Dev nD) {s : ℕ} (h : n < s + 2) : Above n (dueA b c s) :=
  above_sum fun t ht => above_owesA b c (by have := Finset.mem_Ico.mp ht; omega) (by have := Finset.mem_Ico.mp ht; omega)
theorem above_dueP {n : ℕ} (b : Bool) (c : Dev nD) {s : ℕ} (h : n < s + 2) : Above n (dueP b c s) :=
  above_sum fun t ht => above_owesP b c (by have := Finset.mem_Ico.mp ht; omega)

theorem sum_from (T : ℕ → CellTallies nD τ sig ℕ) {s n : ℕ} (h : s < n) : ∑ t ∈ Finset.Ico s n, T t = ∑ t ∈ Finset.Ico (s + 1) n, T t + T s := by
  rw [show Finset.Ico s n = insert s (Finset.Ico (s + 1) n) by ext x; simp only [Finset.mem_Ico, Finset.mem_insert]; omega,
    Finset.sum_insert (by rw [Finset.mem_Ico]; omega), add_comm]
theorem dueA_step (b : Bool) (c : Dev nD) {s : ℕ} (hs : s ≤ last b) : dueA b c s = dueA b c (s + 1) + owesA b c s := by
  unfold dueA; exact sum_from _ (by omega)
theorem dueP_step (b : Bool) (c : Dev nD) {s : ℕ} (hs : s < cnt b) : dueP b c s = dueP b c (s + 1) + owesP b c s := by
  unfold dueP; exact sum_from _ hs
theorem dueA_end (b : Bool) (c : Dev nD) {s : ℕ} (hs : last b < s) : dueA b c s = 0 := by
  unfold dueA; rw [Finset.Ico_eq_empty (by omega), Finset.sum_empty]
theorem dueP_end (b : Bool) (c : Dev nD) {s : ℕ} (hs : cnt b ≤ s) : dueP b c s = 0 := by
  unfold dueP; rw [Finset.Ico_eq_empty (by omega), Finset.sum_empty]

/-- What is owed: blocks from steps `a`, `a'`, products from steps `p`, `p'`. -/
def due (c : Dev nD) (a a' p p' : ℕ) : CellTallies nD τ sig ℕ := dueA true c a + dueA false c a' + dueP true c p + dueP false c p'

theorem above_due {n : ℕ} (c : Dev nD) {a a' p p' : ℕ} (h₁ : n < a + 2) (h₂ : n < a' + 2) (h₃ : n < p + 2) (h₄ : n < p' + 2) : Above n (due c a a' p p') :=
  above_add (above_add (above_add (above_dueA true c h₁) (above_dueA false c h₂)) (above_dueP true c h₃)) (above_dueP false c h₄)

theorem due_put_true (c : Dev nD) {a : ℕ} (a' p p' : ℕ) (h : a ≤ 15) : due c a a' p p' = due c (a + 1) a' p p' + owesA true c a := by
  unfold due; rw [dueA_step true c (s := a) h]; ac_rfl
theorem due_put_false (c : Dev nD) (a : ℕ) {a' : ℕ} (p p' : ℕ) (h : a' ≤ 14) : due c a a' p p' = due c a (a' + 1) p p' + owesA false c a' := by
  unfold due; rw [dueA_step false c (s := a') h]; ac_rfl
theorem due_prod_true (c : Dev nD) (a a' : ℕ) {p : ℕ} (p' : ℕ) (h : p < 17) : due c a a' p p' = due c a a' (p + 1) p' + owesP true c p := by
  unfold due; rw [dueP_step true c (s := p) h]; ac_rfl
theorem due_prod_false (c : Dev nD) (a a' p : ℕ) {p' : ℕ} (h : p' < 16) : due c a a' p p' = due c a a' p (p' + 1) + owesP false c p' := by
  unfold due; rw [dueP_step false c (s := p') h]; ac_rfl
theorem due_end (c : Dev nD) : due c 16 15 17 16 = 0 := by
  unfold due
  rw [dueA_end true c (by decide), dueA_end false c (by decide), dueP_end true c (by decide), dueP_end false c (by decide)]; simp only [add_zero]

/-- Device `c` owes `O`. -/
def debt (c : Dev nD) (O : CellTallies nD τ sig ℕ) : sProp 𝕄 := iprop(∃ W, owes (c : Thread nD τ) O W)

/-! ## The cells by number -/

/-- The semaphores of the protocol: the body's own, and last the barrier's. -/
def csem (k : Fin 79) : SemLoc sig := if h : k.val < 78 then .dma ⟨k.val + 3, (by omega : k.val + 3 < 81)⟩ else .reg barS
/-- The number of a semaphore. -/
def csemIx (sm : SemLoc sig) : Fin 79 := match sm with
  | .reg _ => ⟨78, by decide⟩ | .dma q => ⟨(q.val - 3) % 79, Nat.mod_lt _ (by decide)⟩
def kcell (p : Dev nD × Fin 79) : GSem nD τ sig := ((p.1 : Thread nD τ), csem p.2)

theorem csem_ix (sm : SemLoc sig) (h : useOf sm ≠ .oth) : csem (csemIx sm) = sm := by
  rcases sm with r | q
  · have : r = barS := Subsingleton.elim (α := Fin 1) _ _
    rw [this]; rfl
  · have hq : 3 ≤ q.val := by
      by_contra hn
      exact h (by show useN q.val = _; unfold useN; rw [if_pos (by omega)])
    have hq' : q.val < 81 := q.isLt
    unfold csemIx csem
    dsimp only
    rw [dif_pos (by omega)]
    exact congrArg SemLoc.dma (Fin.ext (by show (q.val - 3) % 79 + 3 = q.val; omega))

theorem csem_injective : Function.Injective csem := by
  intro i j h
  have := i.isLt; have := j.isLt
  unfold csem at h
  refine Fin.ext ?_
  split at h <;> split at h
  · have h := congrArg Fin.val (SemLoc.dma.inj h); dsimp only at h; omega
  · cases h
  · cases h
  · omega

theorem kcell_injective : Function.Injective kcell := by
  rintro ⟨c, k⟩ ⟨c', k'⟩ h
  have hc : (c : Thread nD τ) = (c' : Thread nD τ) := congrArg Prod.fst h
  have hc : c = c' := congrArg Prod.fst hc
  have hk : k = k' := csem_injective (congrArg Prod.snd h)
  rw [hc, hk]

variable (K : Dev nD × Fin 79 → ℕ)

/-- The name of a cell's invariant. -/
abbrev nm (c : Dev nD) (sm : SemLoc sig) : ℕ := K (c, csemIx sm)

/-- What every device knows: the invariant of every cell, every cell's first round open, and the levels. -/
def env : sProp 𝕄 :=
  iprop((bigSep Finset.univ (fun p : Dev nD × Fin 79 => cellInv ER (Rd m) (K p) (kcell p))
    ∗ bigSep Finset.univ (fun p : Dev nD × Fin 79 => reached ER (kcell p) 0)) ∗ levAts L lv)

instance env_persistent : BI.Persistent (env m K) := by unfold env; infer_instance

theorem env_inv (c : Dev nD) (sm : SemLoc sig) (h : useOf sm ≠ .oth) : env m K ⊢ cellInv ER (Rd m) (nm K c sm) ((c : Thread nD τ), sm) := by
  have e : kcell (c, csemIx sm) = ((c : Thread nD τ), sm) := by unfold kcell; rw [csem_ix sm h]
  have h' : bigSep Finset.univ (fun p : Dev nD × Fin 79 => cellInv ER (Rd m) (K p) (kcell p)) ⊢ (cellInv ER (Rd m) (nm K c sm) ((c : Thread nD τ), sm) : sProp 𝕄) := by
    rw [← e]; exact BI.bigSep_elim (Finset.mem_univ (c, csemIx sm))
  unfold env
  iintro ⟨⟨H, -⟩, -⟩
  iapply h'; iexact H
theorem env_reached (c : Dev nD) (sm : SemLoc sig) (h : useOf sm ≠ .oth) : env m K ⊢ reached ER ((c : Thread nD τ), sm) 0 := by
  have e : kcell (c, csemIx sm) = ((c : Thread nD τ), sm) := by unfold kcell; rw [csem_ix sm h]
  have h' : bigSep Finset.univ (fun p : Dev nD × Fin 79 => reached ER (kcell p) 0) ⊢ (reached ER ((c : Thread nD τ), sm) 0 : sProp 𝕄) := by
    rw [← e]; exact BI.bigSep_elim (Finset.mem_univ (c, csemIx sm))
  unfold env
  iintro ⟨⟨-, H⟩, -⟩
  iapply h'; iexact H
/-- A device may wait for what is not above what it owes. -/
theorem env_wait (c : Dev nD) (sm : SemLoc sig) {ι : ℕ} (hι : ι < 17) {n : ℕ} (hn : lv ((c : Thread nD τ), sm) ι ≤ n) {O : CellTallies nD τ sig ℕ} (hO : Above n O) :
    env m K ⊢ MayWait (c : Thread nD τ) sm ι O := by
  unfold env
  iintro ⟨-, H⟩
  iapply (mayWait c sm hι hn hO); iexact H

theorem env_bar (c : Dev nD) : env m K ⊢ cellInv ER (Rd m) (nm K c (.reg barS)) (barC c) := env_inv m K c _ (by decide)
theorem env_snd (b : Bool) (c : Dev nD) (s : ℕ) : env m K ⊢ cellInv ER (Rd m) (nm K c (sndL b (mod3 s))) (sndC b c s) :=
  env_inv m K c _ (by rw [use_snd]; exact fun h => by cases h)
theorem env_rcv (b : Bool) (c : Dev nD) (s : ℕ) : env m K ⊢ cellInv ER (Rd m) (nm K c (rcvL b (mod3 (s + 1)))) (rcvC b c s) :=
  env_inv m K c _ (by rw [use_rcv]; exact fun h => by cases h)
theorem env_psd (b : Bool) (c : Dev nD) {k : ℕ} (hk : k < cnt b) : env m K ⊢ cellInv ER (Rd m) (nm K c (psdL b hk)) (psdC b c hk) :=
  env_inv m K c _ (by rw [use_psd]; exact fun h => by cases h)
theorem env_prc (b : Bool) (c : Dev nD) {k : ℕ} (hk : k < cnt b) : env m K ⊢ cellInv ER (Rd m) (nm K c (prcL b hk)) (prcC b c hk) :=
  env_inv m K c _ (by rw [use_prc]; exact fun h => by cases h)

end Cert.KernelIdeal.Ring

end
-- ==== Proof.KernelIdeal.Pieces.lean ====
/-
The pieces of the body, one rule for each: what a device needs for it and what it has after it.
-/
module

public import proofs.«01_k».proof.Proof.KernelIdeal.Owed

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (K : Dev nD × Fin 79 → ℕ)

/-- Device `c` runs `p` safely, and `Q` holds after. -/
abbrev run (c : Dev nD) {α : Type} (p : Prog (Eff F) α) (Q : α → sProp 𝕄) : sProp 𝕄 :=
  wp frame (wpE (defs₀ (F := F)) 𝒱₀ (c : Thread nD τ) none) Set.univ p Q

/-! ## What a wait brings -/

theorem rest_snd (b : Bool) (c : Dev nD) (s : ℕ) (h : s ≤ last b) :
    bigSep ((Rd m).duties (sndC b c s) (s / 3) \ ∅) (fun d => (Rd m).payload (sndC b c s) (s / 3) d) = depart m b c s := by
  rw [Finset.sdiff_empty, duties_snd m b c s h, bigSep_singleton, payload_snd]
theorem rest_rcv (b : Bool) (c : Dev nD) (s : ℕ) (h : s ≤ last b) :
    bigSep ((Rd m).duties (rcvC b c s) (s / 3) \ ∅) (fun d => (Rd m).payload (rcvC b c s) (s / 3) d) = arrive m b c s := by
  rw [Finset.sdiff_empty, duties_rcv m b c s h, bigSep_singleton, payload_rcv]
theorem rest_psd (b : Bool) (c : Dev nD) {k : ℕ} (hk : k < cnt b) (h : 1 ≤ k) :
    bigSep ((Rd m).duties (psdC b c hk) 0 \ ∅) (fun d => (Rd m).payload (psdC b c hk) 0 d) = free c (pM b) hk := by
  rw [Finset.sdiff_empty, duties_psd m b c hk h, bigSep_singleton, payload_psd]
theorem rest_prc (b : Bool) (c : Dev nD) {k : ℕ} (hk : k < cnt b) (h : 1 ≤ k) :
    bigSep ((Rd m).duties (prcC b c hk) 0 \ ∅) (fun d => (Rd m).payload (prcC b c hk) 0 d) = hold c (qM b) hk fullShare (prodB m (org (!b) c k) c) := by
  rw [Finset.sdiff_empty, duties_prc m b c hk h, bigSep_singleton, payload_prc]

/-! ## What a device holds for a step -/

/-- The device is at the round of step `s` of its cell for the blocks leaving, -/
def posS (b : Bool) (c : Dev nD) (s : ℕ) : sProp 𝕄 := iprop(atPos ER (sndC b c s) (s / 3) ∅ 0 ∗ reached ER (sndC b c s) (s / 3))
/-- and of its cell for the blocks landing. -/
def posR (b : Bool) (c : Dev nD) (s : ℕ) : sProp 𝕄 := iprop(atPos ER (rcvC b c s) (s / 3) ∅ 0 ∗ reached ER (rcvC b c s) (s / 3))
/-- The rights to raise the two cells of step `s`'s block, and to await the one that lands here. -/
def sendP (b : Bool) (c : Dev nD) (s : ℕ) : sProp 𝕄 :=
  iprop(dutyTok ER (sndC b c s) (s / 3) true ∗ dutyTok ER (rcvC b (nxt b c) s) (s / 3) true ∗ cred (tallyAt (rcvC b c s) s (amtA b)))
/-- A block under way: half of it lent, and its two waits to come. -/
def sentP (b : Bool) (c : Dev nD) (s : ℕ) : sProp 𝕄 :=
  iprop(hold c (aM b) (mod3 s) fullShare.left (wB m (org b c s)) ∗ cred (tallyAt (sndC b c s) s (amtA b)) ∗ cred (tallyAt (rcvC b c s) s (amtA b)))
/-- The device's place at the cells of product `k`, before -/
def atP (b : Bool) (c : Dev nD) {k : ℕ} (hk : k < cnt b) : sProp 𝕄 := iprop(atPos ER (psdC b c hk) 0 ∅ 0 ∗ atPos ER (prcC b c hk) 0 ∅ 0)
/-- and what it holds for the product still to be made, -/
def todoP (b : Bool) (c : Dev nD) (k : ℕ) : sProp 𝕄 := if hk : k < cnt b then
  iprop(free c (pM b) hk ∗ dutyTok ER (psdC b c hk) 0 true ∗ dutyTok ER (prcC b (org b c k) hk) 0 true ∗ atP b c hk ∗ cred (tallyAt (prcC b c hk) k (amtP b))) else iprop(emp)
/-- under way, -/
def wayP (b : Bool) (c : Dev nD) (k : ℕ) : sProp 𝕄 := if hk : k < cnt b then
  iprop(atP b c hk ∗ cred (tallyAt (psdC b c hk) k (amtP b)) ∗ cred (tallyAt (prcC b c hk) k (amtP b))) else iprop(emp)
/-- and collected. -/
def doneP (b : Bool) (c : Dev nD) (k : ℕ) : sProp 𝕄 := if hk : k < cnt b then
  iprop(free c (pM b) hk ∗ free c (qM b) hk ∗ semVal (psdC b c hk) 0 ∗ semVal (prcC b c hk) 0) else iprop(emp)

theorem mod3_add (s : ℕ) : (s + 3) % 3 = s % 3 := Nat.add_mod_right s 3

theorem semAt_congr {n : ℕ} (A : DmaSems sig (Cnt n)) {i j : ℕ} (hi : i < n) (hj : j < n) (h : i = j) : semAt A hi = semAt A hj := by subst h; rfl
theorem sndC_add (b : Bool) (c : Dev nD) (s : ℕ) : sndC b c (s + 3) = sndC b c s := by
  unfold sndC sndL; rw [semAt_congr _ (mod3 (s + 3)) (mod3 s) (mod3_add s)]
theorem rcvC_add (b : Bool) (c : Dev nD) (s : ℕ) : rcvC b c (s + 3) = rcvC b c s := by
  unfold rcvC rcvL; rw [semAt_congr _ (mod3 (s + 3 + 1)) (mod3 (s + 1)) (by omega)]

/-! ## A block passed on -/

theorem wp_put {Q : PUnit → sProp 𝕄} (b : Bool) (c : Dev nD) (s : ℕ) (hs : s ≤ last b) {d : Dev nD} (hd : d = nxt b c) (P : Prog (Eff F) PUnit)
    {O₀ : CellTallies nD τ sig ℕ} (O : CellTallies nD τ sig ℕ) (hO : O₀ = O + owesA b c s) :
    iprop(env m K ∗ hold c (aM b) (mod3 s) fullShare (wB m (org b c s)) ∗ room b c s ∗ grants b (org b c s) (s + 1) ∗ back b (nxt b c) s ∗ posS b c s
        ∗ sendP b c s ∗ debt c O₀ ∗ ((sentP m b c s ∗ posS b c s ∗ debt c O) -∗ run c P Q))
      ⊢ run c (put b s d P) Q := by
  subst hd
  have hpay₁ : hold c (aM b) (mod3 s) fullShare.right (wB m (org b c s)) ⊢ (Rd m).payload (sndC b c s) (s / 3) true := by
    rw [payload_snd]; exact .rfl
  have hpay₂ : iprop(hold (nxt b c) (aM b) (mod3 (s + 1)) fullShare (wB m (org b c s)) ∗ (grants b (org b c s) (s + 1) ∗ back b (nxt b c) s))
      ⊢ (Rd m).payload (rcvC b (nxt b c) s) (s / 3) true := by
    have := last_le b
    rw [payload_rcv]; unfold arrive; rw [org_nxt b c (by omega)]
  have h₁ : true ∈ (Rd m).duties (sndC b c s) (s / 3) := by rw [duties_snd m b c s hs]; exact Finset.mem_singleton_self _
  have h₂ : true ∈ (Rd m).duties (rcvC b (nxt b c) s) (s / 3) := by rw [duties_rcv m b (nxt b c) s hs]; exact Finset.mem_singleton_self _
  unfold room posS sendP debt put
  iintro ⟨#He, Hh, ⟨Hf, Hr'⟩, Hg, Hb, ⟨Hp, #Hr⟩, ⟨Ht, Ht', Hc⟩, ⟨%W, Ho⟩, Hk⟩
  ihave Hh := (hold_halves c (aM b) (mod3 s) (wB m (org b c s))).1 $$ Hh
  icases Hh with ⟨Hl, Hh⟩
  iapply (wp_send_hold c (Q := Q) (q := fullShare.right) (V := wB m (org b c s)) (Rd m) (aM b) (aM b) (aM_whole b) (aM_whole b) (sndS b) (rcvS b) (mod3 s) (mod3 (s + 1)) (nxt b c)
    (fun _ => P) iprop(grants b (org b c s) (s + 1) ∗ back b (nxt b c) s) (κ₁ := nm K c (sndL b (mod3 s))) (κ₂ := nm K (nxt b c) (rcvL b (mod3 (s + 1)))) (r₁ := s / 3) (r₂ := s / 3)
    h₁ h₂
    s s (amtA b) (credit_a b _) (amount_snd m b c s _ _) (amount_rcv m b (nxt b c) s _ _) O hO (W := W) hpay₁ hpay₂) $$ [Hh Hf Hg Hb Ho Ht Ht' Hr']
  · isplitr; · iapply (env_snd m K b c s); iexact He
    isplitr; · iapply (env_rcv m K b (nxt b c) s); iexact He
    isplitl [Hh]; · iexact Hh
    isplitl [Hf Hg Hb]
    · isplitl [Hf]; · iexact Hf
      isplitl [Hg]; · iexact Hg
      iexact Hb
    isplitl [Ho]; · iexact Ho
    isplitl [Ht]; · iexact Ht
    isplitr; · iexact Hr
    isplitl [Ht']; · iexact Ht'
    iexact Hr'
  iintro ⟨Hcs, Ho⟩
  iapply Hk
  unfold sentP
  isplitl [Hl Hcs Hc]
  · isplitl [Hl]; · iexact Hl
    isplitl [Hcs]; · iexact Hcs
    iexact Hc
  isplitl [Hp]
  · isplitl [Hp]; · iexact Hp
    iexact Hr
  iexists W; iexact Ho

/-- After its waits the slot is free again, and the next block is there with what comes along. -/
theorem wp_settle {Q : PUnit → sProp 𝕄} (b : Bool) (c : Dev nD) (s : ℕ) (hs : s ≤ last b) (P : Prog (Eff F) PUnit) {O : CellTallies nD τ sig ℕ} (hO : Above (s + 2) O) :
    iprop(env m K ∗ sentP m b c s ∗ posS b c s ∗ posR b c s ∗ debt c O
        ∗ ((free c (aM b) (mod3 s) ∗ arrive m b c s ∗ posS b c (s + 3) ∗ posR b c (s + 3) ∗ debt c O) -∗ run c P Q))
      ⊢ run c (settle b s P) Q := by
  have hs16 : s < 17 := by have := last_le b; omega
  have e₁ : 0 + (slot (aM b) (mod3 s)).view.dmaCredit = (Rd m).expect (sndC b c s) (s / 3) := by
    rw [Nat.zero_add, expect_snd m b c s hs]; exact credit_a b _
  have e₂ : 0 + (slot (aM b) (mod3 (s + 1))).view.dmaCredit = (Rd m).expect (rcvC b c s) (s / 3) := by
    rw [Nat.zero_add, expect_rcv m b c s hs]; exact credit_a b _
  unfold sentP posS posR debt settle
  rw [sndC_add, rcvC_add, show (s + 3) / 3 = s / 3 + 1 by omega]
  iintro ⟨#He, ⟨Hl, Hcs, Hcr⟩, ⟨HS, -⟩, ⟨HR, -⟩, ⟨%W, Ho⟩, Hk⟩
  iapply (Rounds.wp_wait_rest_token 𝒱₀ ER (Rd m) (c : Thread nD τ) none (Q := Q) (κ := nm K c (sndL b (mod3 s)))
      (wpE_waitDma2_eq 𝒱₀ (c : Thread nD τ) none Set.univ) (Set.mem_univ _) s (O := O) (W := W) (R := s / 3) (m := 0) (T := ∅)
      e₁) $$ [Hcs Ho HS]
  · isplitr; · iapply (env_snd m K b c s); iexact He
    isplitl [Hcs]
    · rw [credit_a]; iexact Hcs
    isplitl [Ho]; · iexact Ho
    isplitr
    · iapply (env_wait m K c (sndL b (mod3 s)) hs16 (n := s + 2) (by rw [lv_snd]; omega) hO); iexact He
    iexact HS
  iintro ⟨Ho, HS, HrS, Hpay⟩
  ihave Hpay := (Entails.of_eq (rest_snd m b c s hs)) $$ Hpay
  unfold depart
  ihave Hfree := (hold_halves c (aM b) (mod3 s) (wB m (org b c s))).2 $$ [Hl Hpay]
  · isplitl [Hl]; · iexact Hl
    iexact Hpay
  iapply (Rounds.wp_wait_rest_token 𝒱₀ ER (Rd m) (c : Thread nD τ) none (Q := Q) (κ := nm K c (rcvL b (mod3 (s + 1))))
      (wpE_waitDma2_eq 𝒱₀ (c : Thread nD τ) none Set.univ) (Set.mem_univ _) s (O := O) (W := insert (sndL b (mod3 s), s) W) (R := s / 3) (m := 0) (T := ∅)
      e₂) $$ [Hcr Ho HR]
  · isplitr; · iapply (env_rcv m K b c s); iexact He
    isplitl [Hcr]
    · rw [credit_a]; iexact Hcr
    isplitl [Ho]; · iexact Ho
    isplitr
    · iapply (env_wait m K c (rcvL b (mod3 (s + 1))) hs16 (n := s + 2) (le_of_eq (lv_rcv b c s s)) hO); iexact He
    iexact HR
  iintro ⟨Ho, HR, HrR, Hpay⟩
  ihave Hpay := (Entails.of_eq (rest_rcv m b c s hs)) $$ Hpay
  iapply Hk
  isplitl [Hfree]; · iapply (free_intro c (aM b) (mod3 s) _); iexact Hfree
  isplitl [Hpay]; · iexact Hpay
  isplitl [HS HrS]
  · isplitl [HS]; · iexact HS
    iexact HrS
  isplitl [HR HrR]
  · isplitl [HR]; · iexact HR
    iexact HrR
  iexists _; iexact Ho

end Cert.KernelIdeal.Ring

end
-- ==== Proof.KernelIdeal.Products.lean ====
/-
The rules for the products, for the device's own block of the result, for the copies of the operands and for the handshake.
-/
module

public import proofs.«01_k».proof.Proof.KernelIdeal.Pieces
public import Idealize.ShloMosaic.Lib.VecWindow

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (K : Dev nD × Fin 79 → ℕ)

/-! ## Whole buffers -/

theorem wp_get_all {Q : PUnit → sProp 𝕄} (c : Dev nD) {S : Shape} {e : EltTy} (M : Memref sig .tc .vmem S e) (q : PosShare TreeShare) (X : S.Idx → Elt F e)
    {off : Fin S.rank → ℕ} (inb : ∀ a, off a + S.size a ≤ S.size a) {hl : M.view.LoadsAt (Rect.unit off S.size inb).toLoadRect} (P : (S.Idx → Elt F e) → Prog (Eff F) PUnit) :
    iprop(owns (c : Thread nD τ) M q X ∗ (owns (c : Thread nD τ) M q X -∗ run c (P X) Q))
      ⊢ run c (.op (.load M (Rect.unit off S.size inb).toLoadRect hl) P) Q := by
  unfold owns
  iintro ⟨⟨%f, %hf, H⟩, Hk⟩
  iapply (wp_load 𝒱₀ (c : Thread nD τ) none Set.univ (m := M) (r := (Rect.unit off S.size inb).toLoadRect) (S := M.view.set) (View.setOn_subset_set _ _)) $$ H
  iintro H
  rw [View.readAt_full, hf]
  iapply Hk
  iexists f; isplitr; · ipureintro; exact hf
  iexact H

theorem wp_set_all {Q : PUnit → sProp 𝕄} (c : Dev nD) {S : Shape} {e : EltTy} (M : Memref sig .tc .vmem S e) (X : S.Idx → Elt F e)
    {off : Fin S.rank → ℕ} (inb : ∀ a, off a + S.size a ≤ S.size a) (w : (Rect.unit off S.size inb).shape.Idx → Elt F e)
    {hx : (M.access (Rect.unit off S.size inb)).Stores Finset.univ} {hm : Finset.univ = Finset.univ ∨ ∀ a, (Rect.unit off S.size inb).stride a = 1} (P : PUnit → Prog (Eff F) PUnit) :
    iprop(owns (c : Thread nD τ) M fullShare X ∗ (owns (c : Thread nD τ) M fullShare w -∗ run c (P ⟨⟩) Q))
      ⊢ run c (.op (.store M (Rect.unit off S.size inb) w Finset.univ hx hm) P) Q := by
  unfold owns
  iintro ⟨⟨%f, %hf, H⟩, Hk⟩
  iapply (wp_store_writes₀ 𝒱₀ (c : Thread nD τ) none Set.univ (m := M) (r := Rect.unit off S.size inb) (S := M.view.set) (f := f) (View.set_slice_subset _ _)) $$ H
  iintro H
  iapply Hk
  iexists _; isplitr
  swap
  · iexact H
  ipureintro
  exact View.read_writes_full _ _ inb w []

/-- The working copy of the device's rows, made. -/
def xS (c : Dev nD) : sProp 𝕄 := owns (c : Thread nD τ) xM fullShare (xB m c)

/-! ## The result -/

/-- Device `c` holds its result, whose rows of the devices in `D` are made. -/
def outS (c : Dev nD) (D : Dev nD → Prop) : sProp 𝕄 :=
  ownsSat (c : Thread nD τ) outM fullShare fun X => ∀ o, D o → ∀ (p : S256x128.Idx) (y : S8192x128.Idx),
    (y 0).val = 256 * o.val + (p 0).val → (y 1).val = (p 1).val → X y = band m c o p

theorem outS_mono (c : Dev nD) {D D' : Dev nD → Prop} (h : ∀ o, D' o → D o) : outS m c D ⊢ outS m c D' :=
  ownsSat_mono (c : Thread nD τ) outM fullShare fun _ hX o ho => hX o (h o ho)

theorem wp_out_get {Q : PUnit → sProp 𝕄} (c : Dev nD) (D : Dev nD → Prop) (off : Fin 2 → ℕ) (h : ∀ a, off a + S256x128.size a ≤ S8192x128.size a) (P : Prog (Eff F) PUnit) :
    iprop(outS m c D ∗ (outS m c D -∗ run c P Q)) ⊢ run c (.op (outGetE outM off h) fun _ => P) Q := by
  unfold outS ownsSat
  iintro ⟨⟨%f, %hf, H⟩, Hk⟩
  iapply (wp_load 𝒱₀ (c : Thread nD τ) none Set.univ (m := outM) (r := (Rect.unit (s := S8192x128) off S256x128.size h).toLoadRect) (S := outM.view.set) (View.setOn_subset_set _ _)) $$ H
  iintro H
  iapply Hk
  iexists f; isplitr; · ipureintro; exact hf
  iexact H

theorem wp_out_set {Q : PUnit → sProp 𝕄} (c : Dev nD) (D : Dev nD → Prop) (o : Dev nD) (off : Fin 2 → ℕ) (h : ∀ a, off a + S256x128.size a ≤ S8192x128.size a)
    (ho : off = ![256 * o.val, 0]) (v : FVec F S256x128 .f32) (hv : v = band m c o) (P : Prog (Eff F) PUnit) :
    iprop(outS m c D ∗ (outS m c (fun o' => o' = o ∨ D o') -∗ run c P Q)) ⊢ run c (.op (outSetE outM off h v) fun _ => P) Q := by
  subst ho hv
  unfold outS ownsSat
  iintro ⟨⟨%f, %hf, H⟩, Hk⟩
  iapply (wp_store_writes₀ 𝒱₀ (c : Thread nD τ) none Set.univ (m := outM) (r := Rect.unit (s := S8192x128) ![256 * o.val, 0] S256x128.size h) (S := outM.view.set) (f := f) (View.set_slice_subset _ _)) $$ H
  iintro H
  iapply Hk
  iexists _; isplitr
  swap
  · iexact H
  ipureintro
  intro o' hD p y hy0 hy1
  by_cases e : o' = o
  · subst e
    refine View.read_writes_cons_hit_of_coords _ _ (Rect.unit (s := S8192x128) ![256 * o'.val, 0] S256x128.size h) _ _ p y fun a => ?_
    fin_cases a
    · show (y 0).val = 256 * o'.val + 1 * (p 0).val; omega
    · show (y 1).val = 0 + 1 * (p 1).val; omega
  · have hne : o'.val ≠ o.val := fun h => e (Fin.ext h)
    have hp : (p 0).val < 256 := (p 0).isLt
    rw [View.read_writes_cons_miss_of_axis _ _ _ _ y 0 (256 * o.val) 256 rfl rfl rfl (by omega)]
    exact hf o' (hD.resolve_left e) p y hy0 hy1

/-! ## A product -/

theorem wp_produce {Q : PUnit → sProp 𝕄} (b : Bool) (c : Dev nD) (s : ℕ) (hs : s < cnt b) (h1 : 1 ≤ s) {d : Dev nD} (hd : d = org b c s) (q : PosShare TreeShare)
    (P : Prog (Eff F) PUnit) {O₀ : CellTallies nD τ sig ℕ} (O : CellTallies nD τ sig ℕ) (hO : O₀ = O + owesP b c s) :
    iprop(env m K ∗ hold c (aM b) (mod3 s) q (wB m (org b c s)) ∗ xS m c ∗ freeN (org b c s) (qM b) s ∗ todoP b c s ∗ debt c O₀
        ∗ ((hold c (aM b) (mod3 s) q (wB m (org b c s)) ∗ xS m c ∗ wayP b c s ∗ debt c O) -∗ run c P Q))
      ⊢ run c (produce b s hs d P) Q := by
  subst hd
  have hs32 : s ≤ 32 := by have := last_le b; have := cnt_eq b; omega
  unfold owesP at hO
  rw [dif_pos hs] at hO
  have hpay₁ : hold c (pM b) hs fullShare (k0_pay7 (wB m (org b c s)) (xB m c)) ⊢ (Rd m).payload (psdC b c hs) 0 true := by
    rw [payload_psd]; exact free_intro c (pM b) hs _
  have hpay₂ : iprop(hold (org b c s) (qM b) hs fullShare (k0_pay7 (wB m (org b c s)) (xB m c)) ∗ emp) ⊢ (Rd m).payload (prcC b (org b c s) hs) 0 true := by
    rw [payload_prc, org_org b c hs32]
    unfold prodB
    iintro ⟨H, -⟩; iexact H
  have h₁ : true ∈ (Rd m).duties (psdC b c hs) 0 := by rw [duties_psd m b c hs h1]; exact Finset.mem_singleton_self _
  have h₂ : true ∈ (Rd m).duties (prcC b (org b c s) hs) 0 := by rw [duties_prc m b (org b c s) hs h1]; exact Finset.mem_singleton_self _
  unfold xS freeN todoP debt produce
  simp only [dif_pos hs]
  iintro ⟨#He, Hh, Hx, Hf, ⟨Hp, Ht, Ht', Hat, Hc⟩, ⟨%W, Ho⟩, Hk⟩
  iapply (wp_get c (aM b) (mod3 s) q (wB m (org b c s)) (Q := Q) h_S1x8192x128)
  isplitl [Hh]; · iexact Hh
  iintro Hh
  iapply (wp_get_all c xM fullShare (xB m c) (Q := Q))
  isplitl [Hx]; · iexact Hx
  iintro Hx
  unfold free
  icases Hp with ⟨%V, Hp⟩
  iapply (wp_get c (pM b) hs fullShare V (Q := Q) h_S1x256x128)
  isplitl [Hp]; · iexact Hp
  iintro Hp
  iapply (wp_set c (pM b) hs (Q := Q) (pM_whole b) h_S1x256x128 (k0_pay7 (wB m (org b c s)) (xB m c)))
  isplitl [Hp]; · iapply (free_intro c (pM b) hs V); iexact Hp
  iintro Hp
  iapply (wp_send_hold c (Q := Q) (q := fullShare) (V := k0_pay7 (wB m (org b c s)) (xB m c)) (Rd m) (pM b) (qM b) (pM_whole b) (qM_whole b) (psdS b) (prcS b) hs hs (org b c s)
    (fun _ => P) iprop(emp) (κ₁ := nm K c (psdL b hs)) (κ₂ := nm K (org b c s) (prcL b hs)) (r₁ := 0) (r₂ := 0)
    h₁ h₂ s s (amtP b) (credit_q b hs) (amount_psd m b c hs _ _) (amount_prc m b (org b c s) hs _ _) O hO (W := W) hpay₁ hpay₂) $$ [Hp Hf Ho Ht Ht']
  · isplitr; · iapply (env_psd m K b c hs); iexact He
    isplitr; · iapply (env_prc m K b (org b c s) hs); iexact He
    isplitl [Hp]; · iexact Hp
    isplitl [Hf]
    · isplitl [Hf]; · unfold free; iexact Hf
      iempintro
    isplitl [Ho]; · iexact Ho
    isplitl [Ht]; · iexact Ht
    isplitr; · iapply (env_reached m K c (psdL b hs) (by rw [use_psd]; exact fun h => by cases h)); iexact He
    isplitl [Ht']; · iexact Ht'
    iapply (env_reached m K (org b c s) (prcL b hs) (by rw [use_prc]; exact fun h => by cases h)); iexact He
  iintro ⟨Hcs, Ho⟩
  iapply Hk
  isplitl [Hh]; · iexact Hh
  isplitl [Hx]; · iexact Hx
  isplitl [Hat Hcs Hc]
  · unfold wayP
    simp only [dif_pos hs]
    isplitl [Hat]; · iexact Hat
    isplitl [Hcs]; · iexact Hcs
    iexact Hc
  iexists W; iexact Ho

theorem wp_collect {Q : PUnit → sProp 𝕄} (b : Bool) (c : Dev nD) (s : ℕ) (hs : s < cnt b) (h1 : 1 ≤ s) {off : Fin 2 → ℕ} (h : ∀ a, off a + S256x128.size a ≤ S8192x128.size a)
    (ho : off = ![256 * (org (!b) c s).val, 0]) (P : Prog (Eff F) PUnit) {O : CellTallies nD τ sig ℕ} (hO : Above (s + 2) O) (D : Dev nD → Prop) :
    iprop(env m K ∗ wayP b c s ∗ outS m c D ∗ debt c O ∗ ((doneP b c s ∗ outS m c (fun o => o = org (!b) c s ∨ D o) ∗ debt c O) -∗ run c P Q))
      ⊢ run c (collect b s hs off h P) Q := by
  have hs17 : s < 17 := by have := last_le b; have := cnt_eq b; omega
  have hv : k0_pay1 (prodB m (org (!b) c s) c) = band m c (org (!b) c s) := by
    unfold band; rw [if_neg (org_ne (!b) c (by omega) (by omega))]
  have e₁ : 0 + (slot (pM b) hs).view.dmaCredit = (Rd m).expect (psdC b c hs) 0 := by
    rw [Nat.zero_add, expect_psd m b c hs h1]; exact credit_p b _
  have e₂ : 0 + (slot (qM b) hs).view.dmaCredit = (Rd m).expect (prcC b c hs) 0 := by
    rw [Nat.zero_add, expect_prc m b c hs h1]; exact credit_q b _
  unfold wayP doneP debt collect atP
  simp only [dif_pos hs]
  iintro ⟨#He, ⟨⟨HS, HR⟩, Hcs, Hcr⟩, Hout, ⟨%W, Ho⟩, Hk⟩
  iapply (Rounds.wp_wait_rest_token 𝒱₀ ER (Rd m) (c : Thread nD τ) none (Q := Q) (κ := nm K c (psdL b hs))
      (wpE_waitDma2_eq 𝒱₀ (c : Thread nD τ) none Set.univ) (Set.mem_univ _) s (O := O) (W := W) (R := 0) (m := 0) (T := ∅) e₁) $$ [Hcs Ho HS]
  · isplitr; · iapply (env_psd m K b c hs); iexact He
    isplitl [Hcs]; · rw [credit_p]; iexact Hcs
    isplitl [Ho]; · iexact Ho
    isplitr
    · iapply (env_wait m K c (psdL b hs) hs17 (n := s + 2) (by rw [lv_psd]; omega) hO); iexact He
    iexact HS
  iintro ⟨Ho, HS, -, Hpay⟩
  ihave Hp := (Entails.of_eq (rest_psd m b c hs h1)) $$ Hpay
  iapply (Rounds.wp_wait_rest_token 𝒱₀ ER (Rd m) (c : Thread nD τ) none (Q := Q) (κ := nm K c (prcL b hs))
      (wpE_waitDma2_eq 𝒱₀ (c : Thread nD τ) none Set.univ) (Set.mem_univ _) s (O := O) (W := insert (psdL b hs, s) W) (R := 0) (m := 0) (T := ∅) e₂) $$ [Hcr Ho HR]
  · isplitr; · iapply (env_prc m K b c hs); iexact He
    isplitl [Hcr]; · rw [credit_q]; iexact Hcr
    isplitl [Ho]; · iexact Ho
    isplitr
    · iapply (env_wait m K c (prcL b hs) hs17 (n := s + 2) (le_of_eq (lv_prc b c hs s)) hO); iexact He
    iexact HR
  iintro ⟨Ho, HR, -, Hpay⟩
  ihave Hq := (Entails.of_eq (rest_prc m b c hs h1)) $$ Hpay
  imod (Rounds.cell_close ER (Rd m) (Set.mem_univ (nm K c (psdL b hs))) (fun h => h) (R := 0 + 1) (fun r hr => duties_psd_later m b c hs r (Or.inl hr))) $$ [HS] with HzS
  · isplitr; · iapply (env_psd m K b c hs); iexact He
    iexact HS
  imod (Rounds.cell_close ER (Rd m) (Set.mem_univ (nm K c (prcL b hs))) (fun h => h) (R := 0 + 1) (fun r hr => duties_prc_later m b c hs r (Or.inl hr))) $$ [HR] with HzR
  · isplitr; · iapply (env_prc m K b c hs); iexact He
    iexact HR
  iapply (wp_get c (qM b) hs fullShare (prodB m (org (!b) c s) c) (Q := Q) h_S1x256x128)
  isplitl [Hq]; · iexact Hq
  iintro Hq
  iapply (wp_out_get m c D off h)
  isplitl [Hout]; · iexact Hout
  iintro Hout
  iapply (wp_out_set m c D (org (!b) c s) off h ho _ hv)
  isplitl [Hout]; · iexact Hout
  iintro Hout
  iapply Hk
  isplitl [Hp Hq HzS HzR]
  · isplitl [Hp]; · iexact Hp
    isplitl [Hq]; · iapply (free_intro c (qM b) hs _); iexact Hq
    isplitl [HzS]; · iexact HzS
    iexact HzR
  isplitl [Hout]; · iexact Hout
  iexists _; iexact Ho

/-- The device's own block of the result. -/
theorem wp_own {Q : PUnit → sProp 𝕄} (c : Dev nD) {off : Fin 2 → ℕ} (h : ∀ a, off a + S256x128.size a ≤ S8192x128.size a)
    (ho : off = ![256 * c.val, 0]) (P : Prog (Eff F) PUnit) (q : PosShare TreeShare) (D : Dev nD → Prop) :
    iprop(hold c (aM true) (mod3 0) q (wB m (org true c 0)) ∗ xS m c ∗ outS m c D
        ∗ ((hold c (aM true) (mod3 0) q (wB m (org true c 0)) ∗ xS m c ∗ outS m c (fun o => o = c ∨ D o)) -∗ run c P Q))
      ⊢ run c (own off h P) Q := by
  have hv : k0_pay6 (wB m (org true c 0)) (xB m c) = band m c c := by
    unfold band; rw [if_pos rfl, org_zero]
  unfold xS own
  iintro ⟨Hh, Hx, Hout, Hk⟩
  iapply (wp_get c (aM true) (mod3 0) q (wB m (org true c 0)) (Q := Q) h_S1x8192x128)
  isplitl [Hh]; · iexact Hh
  iintro Hh
  iapply (wp_get_all c xM fullShare (xB m c) (Q := Q))
  isplitl [Hx]; · iexact Hx
  iintro Hx
  iapply (wp_out_get m c D off h)
  isplitl [Hout]; · iexact Hout
  iintro Hout
  iapply (wp_out_set m c D c off h ho _ hv)
  isplitl [Hout]; · iexact Hout
  iintro Hout
  iapply Hk
  isplitl [Hh]; · iexact Hh
  isplitl [Hx]; · iexact Hx
  iexact Hout

/-! ## The copies of the operands -/

theorem wp_stage {Q : PUnit → sProp 𝕄} (c : Dev nD) (P : Prog (Eff F) PUnit) (q q' : PosShare TreeShare) :
    iprop(owns (c : Thread nD τ) xIn q (xstg m c) ∗ owns (c : Thread nD τ) wIn q' (wstg m c) ∗ (∃ X, owns (c : Thread nD τ) xM fullShare X)
        ∗ free c (aM true) (mod3 0) ∗ free c (aM false) (mod3 0)
        ∗ ((owns (c : Thread nD τ) xIn q (xstg m c) ∗ owns (c : Thread nD τ) wIn q' (wstg m c) ∗ xS m c
            ∗ hold c (aM true) (mod3 0) fullShare (wB m (org true c 0)) ∗ hold c (aM false) (mod3 0) fullShare (wB m (org false c 0))) -∗ run c P Q))
      ⊢ run c (stage P) Q := by
  have hf : k0_pay5 (wstg m c) = wB m c := rfl
  rw [org_zero, org_zero]
  unfold stage xS free
  iintro ⟨Hx, Hw, ⟨%X, HX⟩, ⟨%V, HA⟩, ⟨%V', HB⟩, Hk⟩
  iapply (wp_get_all c xIn q (xstg m c) (Q := Q))
  isplitl [Hx]; · iexact Hx
  iintro Hx
  iapply (wp_get_all c xM fullShare X (Q := Q))
  isplitl [HX]; · iexact HX
  iintro HX
  iapply (wp_set_all c xM X (Q := Q))
  isplitl [HX]; · iexact HX
  iintro HX
  iapply (wp_get_all c wIn q' (wstg m c) (Q := Q))
  isplitl [Hw]; · iexact Hw
  iintro Hw
  iapply (wp_get c (aM true) (mod3 0) fullShare V (Q := Q) h_S1x8192x128)
  isplitl [HA]; · iexact HA
  iintro HA
  iapply (wp_set c (aM true) (mod3 0) (Q := Q) (aM_whole true) h_S1x8192x128 (k0_pay4 (wstg m c)))
  isplitl [HA]; · iapply (free_intro c (aM true) (mod3 0) V); iexact HA
  iintro HA
  iapply (wp_get c (aM false) (mod3 0) fullShare V' (Q := Q) h_S1x8192x128)
  isplitl [HB]; · iexact HB
  iintro HB
  iapply (wp_set c (aM false) (mod3 0) (Q := Q) (aM_whole false) h_S1x8192x128 (k0_pay5 (wstg m c)))
  isplitl [HB]; · iapply (free_intro c (aM false) (mod3 0) V'); iexact HB
  iintro HB
  iapply Hk
  isplitl [Hx]; · iexact Hx
  isplitl [Hw]; · iexact Hw
  isplitl [HX]; · iexact HX
  isplitl [HA]; · iexact HA
  rw [hf]; iexact HB

/-! ## The handshake -/

theorem rest_bar (c : Dev nD) : bigSep ((Rd m).duties (barC c) 0 \ ∅) (fun d => (Rd m).payload (barC c) 0 d)
    = iprop((free (nxt true c) (aM true) (mod3 1) ∗ free (nxt true c) (aM true) (mod3 2)) ∗ (free (nxt false c) (aM false) (mod3 1) ∗ free (nxt false c) (aM false) (mod3 2))) := by
  rw [Finset.sdiff_empty, duties_bar, bigSep_univ_eq_bigSepL [true, false] (by decide) (by decide), bigSepL_cons_cons, bigSepL_singleton]
  rfl

/-- The device owes both neighbours a unit of the barrier. -/
def owesB (c : Dev nD) : CellTallies nD τ sig ℕ := tallyAt (barC (nxt true c)) 0 1 + tallyAt (barC (nxt false c)) 0 1

theorem wp_handshake {Q : PUnit → sProp 𝕄} (c : Dev nD) {l r : Dev nD} (hl : l = nxt false c) (hr : r = nxt true c) (P : Prog (Eff F) PUnit)
    {O : CellTallies nD τ sig ℕ} (hO : Above 1 O) :
    iprop(env m K ∗ dutyTok ER (barC (nxt false c)) 0 true ∗ dutyTok ER (barC (nxt true c)) 0 false
        ∗ (free c (aM true) (mod3 1) ∗ free c (aM true) (mod3 2)) ∗ (free c (aM false) (mod3 1) ∗ free c (aM false) (mod3 2))
        ∗ atPos ER (barC c) 0 ∅ 0 ∗ cred (tallyAt (barC c) 0 2) ∗ debt c (O + owesB c)
        ∗ (((room true c 0 ∗ room true c 1) ∗ (room false c 0 ∗ room false c 1) ∗ semVal (barC c) 0 ∗ debt c O) -∗ run c P Q))
      ⊢ run c (handshake l r P) Q := by
  subst hl hr
  have ht : nxt true (nxt false c) = c := nxt_nxt false c
  have hf : nxt false (nxt true c) = c := nxt_nxt true c
  have hd (c' : Dev nD) (d : Bool) : d ∈ (Rd m).duties (barC c') 0 := by rw [duties_bar]; exact Finset.mem_univ _
  have hz (b : Bool) (c' : Dev nD) (t : ℕ) (h0 : t / 3 = 0) : env m K ⊢ reached ER (rcvC b c' t) (t / 3) := by
    rw [h0]; exact env_reached m K c' _ (by rw [use_rcv]; exact fun h => by cases h)
  have hroom (b : Bool) : iprop(env m K ∗ free (nxt b c) (aM b) (mod3 1) ∗ free (nxt b c) (aM b) (mod3 2)) ⊢ iprop(room b c 0 ∗ room b c 1) := by
    unfold room
    iintro ⟨#He, H1, H2⟩
    isplitl [H1]
    · isplitl [H1]; · iexact H1
      iapply (hz b (nxt b c) 0 (by decide)); iexact He
    · isplitl [H2]; · iexact H2
      iapply (hz b (nxt b c) 1 (by decide)); iexact He
  unfold debt handshake
  iintro ⟨#He, Htl, Htr, HA, HB, Hat, Hc, ⟨%W, Ho⟩, Hk⟩
  iapply (Rounds.wp_signal 𝒱₀ ER (Rd m) (c : Thread nD τ) none (Q := Q) (dst := (nxt false c : Thread nD τ)) (κ := nm K (nxt false c) (.reg barS))
      (O₀ := O + owesB c) (d := true) (hd _ _) ((amount_bar m (nxt false c) 0 true).trans (by decide)) 0 (O + tallyAt (barC (nxt true c)) 0 1) (by unfold owesB; rw [add_assoc]; rfl)) $$ [Ho Htl HA]
  · isplitr; · iapply (env_bar m K (nxt false c)); iexact He
    isplitl [Ho]; · iexact Ho
    isplitl [Htl]; · iexact Htl
    isplitl [HA]; · rw [payload_bar, ht]; iexact HA
    iapply (env_reached m K (nxt false c) (.reg barS) (by decide)); iexact He
  iintro Ho
  iapply (Rounds.wp_signal 𝒱₀ ER (Rd m) (c : Thread nD τ) none (Q := Q) (dst := (nxt true c : Thread nD τ)) (κ := nm K (nxt true c) (.reg barS))
      (d := false) (hd _ _) ((amount_bar m (nxt true c) 0 false).trans (by decide)) 0 O rfl) $$ [Ho Htr HB]
  · isplitr; · iapply (env_bar m K (nxt true c)); iexact He
    isplitl [Ho]; · iexact Ho
    isplitl [Htr]; · iexact Htr
    isplitl [HB]; · rw [payload_bar, hf]; iexact HB
    iapply (env_reached m K (nxt true c) (.reg barS) (by decide)); iexact He
  iintro Ho
  iapply (Rounds.wp_wait_rest_token 𝒱₀ ER (Rd m) (c : Thread nD τ) none (Q := Q) (κ := nm K c (.reg barS))
      (wpE_semWait_eq 𝒱₀ (c : Thread nD τ) none Set.univ) (Set.mem_univ _) 0 (O := O) (W := W) (R := 0) (m := 0) (T := ∅)
      (by rw [expect_bar]; decide)) $$ [Hc Ho Hat]
  · isplitr; · iapply (env_bar m K c); iexact He
    isplitl [Hc]; · iexact Hc
    isplitl [Ho]; · iexact Ho
    isplitr; · iapply (env_wait m K c (.reg barS) (by decide) (n := 1) (le_of_eq (lv_bar c 0)) hO); iexact He
    iexact Hat
  iintro ⟨Ho, Hat, -, Hpay⟩
  ihave Hp := (Entails.of_eq (rest_bar m c)) $$ Hpay
  icases Hp with ⟨HA, HB⟩
  imod (Rounds.cell_close ER (Rd m) (Set.mem_univ (nm K c (.reg barS))) (fun h => h) (R := 0 + 1) (fun r hr => duties_bar_later m c r hr)) $$ [Hat] with Hz
  · isplitr; · iapply (env_bar m K c); iexact He
    iexact Hat
  iapply Hk
  isplitl [HA]
  · iapply (hroom true)
    isplitr; · iexact He
    iexact HA
  isplitl [HB]
  · iapply (hroom false)
    isplitr; · iexact He
    iexact HB
  isplitl [Hz]; · iexact Hz
  iexists _; iexact Ho

end Cert.KernelIdeal.Ring

end
-- ==== Proof.KernelIdeal.Steps.lean ====
/-
The steps of the body: what a device holds before each, and one rule for every kind of step.
-/
module

public import proofs.«01_k».proof.Proof.KernelIdeal.Products
public import Idealize.SL.BI.BigOpNat

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (K : Dev nD × Fin 79 → ℕ)

/-! ## What a device holds before a step -/

/-- The block of step `s`, with the slots reserved for its products. -/
def core (b : Bool) (c : Dev nD) (s : ℕ) : sProp 𝕄 := iprop(hold c (aM b) (mod3 s) fullShare (wB m (org b c s)) ∗ grants b (org b c s) s)
/-- The slot the block of step `s - 1` left. -/
def spare (b : Bool) (c : Dev nD) (s : ℕ) : sProp 𝕄 := free c (aM b) (mod3 (s + 2))
/-- The room for step `s`'s block at the next device, when there is one to send. -/
def roomN (b : Bool) (c : Dev nD) (s : ℕ) : sProp 𝕄 := if s ≤ last b then room b c s else iprop(emp)
/-- The rights for the blocks still to be passed on. -/
def sends (b : Bool) (c : Dev nD) (s : ℕ) : sProp 𝕄 := bigSep (Finset.Ico s (last b + 1)) fun k => sendP b c k
/-- The device's places at its six cells for blocks. -/
def posn (b : Bool) (c : Dev nD) (s : ℕ) : sProp 𝕄 :=
  iprop((posS b c s ∗ posS b c (s + 1) ∗ posS b c (s + 2)) ∗ (posR b c s ∗ posR b c (s + 1) ∗ posR b c (s + 2)))
/-- The products: from `p` on still to be made, from `f` on under way, the earlier ones collected. -/
def work (b : Bool) (c : Dev nD) (p f : ℕ) : sProp 𝕄 :=
  iprop(bigSep (Finset.Ico p (cnt b)) (fun k => todoP b c k) ∗ bigSep (Finset.Ico f p) (fun k => wayP b c k) ∗ bigSep (Finset.Ico 1 f) (fun k => doneP b c k))

/-- Ready for step `s` in one direction, -/
def dirA (b : Bool) (c : Dev nD) (s f : ℕ) : sProp 𝕄 :=
  iprop(core m b c s ∗ roomN b c s ∗ spare b c s ∗ sends b c s ∗ posn b c s ∗ work b c s f)
/-- the block passed on, -/
def dirB (b : Bool) (c : Dev nD) (s f : ℕ) : sProp 𝕄 :=
  iprop(sentP m b c s ∗ freeN (org b c s) (qM b) s ∗ sends b c (s + 1) ∗ posn b c s ∗ work b c s f)
/-- and the product sent. -/
def dirC (b : Bool) (c : Dev nD) (s p f : ℕ) : sProp 𝕄 :=
  iprop(sentP m b c s ∗ sends b c (s + 1) ∗ posn b c s ∗ work b c p f)

/-- The devices whose rows are made once the products before `f` and `f'` are collected. -/
def seen (c : Dev nD) (f f' : ℕ) (o : Dev nD) : Prop :=
  o = c ∨ (∃ k, 1 ≤ k ∧ k < f ∧ o = org false c k) ∨ (∃ k, 1 ≤ k ∧ k < f' ∧ o = org true c k)

theorem seen_true {c : Dev nD} {f f' : ℕ} {o : Dev nD} (h : seen c (f + 1) f' o) : o = org false c f ∨ seen c f f' o := by
  rcases h with h | ⟨k, h1, h2, h3⟩ | h
  · exact Or.inr (Or.inl h)
  · rcases Nat.lt_or_ge k f with h4 | h4
    · exact Or.inr (Or.inr (Or.inl ⟨k, h1, h4, h3⟩))
    · have e : k = f := by omega
      exact Or.inl (e ▸ h3)
  · exact Or.inr (Or.inr (Or.inr h))
theorem seen_false {c : Dev nD} {f f' : ℕ} {o : Dev nD} (h : seen c f (f' + 1) o) : o = org true c f' ∨ seen c f f' o := by
  rcases h with h | h | ⟨k, h1, h2, h3⟩
  · exact Or.inr (Or.inl h)
  · exact Or.inr (Or.inr (Or.inl h))
  · rcases Nat.lt_or_ge k f' with h4 | h4
    · exact Or.inr (Or.inr (Or.inr ⟨k, h1, h4, h3⟩))
    · have e : k = f' := by omega
      exact Or.inl (e ▸ h3)
theorem seen_self {c : Dev nD} {o : Dev nD} (h : seen c 1 1 o) : o = c ∨ False := by
  rcases h with h | ⟨k, h1, h2, -⟩ | ⟨k, h1, h2, -⟩
  · exact Or.inl h
  · omega
  · omega

/-! ## Moving between the states -/

theorem free_succ (b : Bool) (c : Dev nD) (s : ℕ) : free c (aM b) (mod3 s) ⊢ (spare (F := F) b c (s + 1)) := by
  have e : ∀ {i j : ℕ} (hi : i < 3) (hj : j < 3), i = j → (free c (aM b) hi : sProp 𝕄) ⊢ free c (aM b) hj := by
    intro i j hi hj h; subst h; exact .rfl
  unfold spare; exact e _ _ (by omega)

/-- The slot left by the step before, given back along with the block passed on. -/
theorem back_intro {b b' : Bool} (hb : b' = !b) (c : Dev nD) (s : ℕ) (h1 : 1 ≤ s) (hs : s + 1 ≤ last b') :
    iprop(spare (F := F) b' c s ∗ posn b' c s) ⊢ iprop(back b (nxt b c) s ∗ posn b' c s) := by
  subst hb
  unfold back
  rw [if_pos ⟨h1, hs⟩]
  unfold room spare posn posR
  rw [nxt_nxt]
  iintro ⟨Hf, Hs, H0, ⟨H1, #Hr⟩, H2⟩
  isplitl [Hf]
  · isplitl [Hf]; · iexact Hf
    iexact Hr
  isplitl [Hs]; · iexact Hs
  isplitl [H0]; · iexact H0
  isplitr [H2]
  · isplitl [H1]; · iexact H1
    iexact Hr
  iexact H2
theorem back_none {b b' : Bool} (hb : b' = !b) (c : Dev nD) (s : ℕ) (h : ¬ (1 ≤ s ∧ s + 1 ≤ last b')) : (emp : sProp 𝕄) ⊢ back b c s := by
  subst hb; unfold back; rw [if_neg h]
theorem back_elim {b b' : Bool} (hb : b' = !b) (c : Dev nD) (s : ℕ) (h1 : 1 ≤ s) : back b c s ⊢ (roomN (F := F) b' c (s + 1)) := by
  subst hb
  unfold back roomN
  by_cases h : s + 1 ≤ last (!b)
  · rw [if_pos ⟨h1, h⟩, if_pos h]
  · rw [if_neg (fun h' => h h'.2), if_neg h]

theorem sends_pop (b : Bool) (c : Dev nD) (s : ℕ) (hs : s ≤ last b) : (sends b c s : sProp 𝕄) = iprop(sendP b c s ∗ sends b c (s + 1)) := by
  unfold sends; exact bigSep_Ico_succ_bot (by omega) _
theorem grants_pop (b : Bool) (d : Dev nD) (s : ℕ) (hs : s < cnt b) : (grants b d s : sProp 𝕄) = iprop(freeN d (qM b) s ∗ grants b d (s + 1)) := by
  unfold grants; exact bigSep_Ico_succ_bot hs _

/-! ## The pieces on the states -/

theorem ring_put {Q : PUnit → sProp 𝕄} (b : Bool) (c : Dev nD) (s : ℕ) (hs : s ≤ last b) {d : Dev nD} (hd : d = nxt b c) (P : Prog (Eff F) PUnit)
    {O₀ : CellTallies nD τ sig ℕ} (O : CellTallies nD τ sig ℕ) (hO : O₀ = O + owesA b c s) :
    iprop(env m K ∗ core m b c s ∗ room b c s ∗ back b (nxt b c) s ∗ sends b c s ∗ posn b c s ∗ debt c O₀
        ∗ ((sentP m b c s ∗ freeN (org b c s) (qM b) s ∗ sends b c (s + 1) ∗ posn b c s ∗ debt c O) -∗ run c P Q))
      ⊢ run c (put b s d P) Q := by
  have hc : s < cnt b := by have := cnt_eq b; omega
  rw [sends_pop b c s hs]
  unfold core posn
  rw [grants_pop b _ s hc]
  iintro ⟨#He, ⟨Hh, Hf, Hg⟩, Hroom, Hb, ⟨Hs, Hs'⟩, ⟨⟨Hp, Hp'⟩, Hr⟩, Ho, Hk⟩
  iapply (wp_put m K b c s hs hd P O hO)
  isplitr; · iexact He
  isplitl [Hh]; · iexact Hh
  isplitl [Hroom]; · iexact Hroom
  isplitl [Hg]; · iexact Hg
  isplitl [Hb]; · iexact Hb
  isplitl [Hp]; · iexact Hp
  isplitl [Hs]; · iexact Hs
  isplitl [Ho]; · iexact Ho
  iintro ⟨Hh, Hp, Ho⟩
  iapply Hk
  isplitl [Hh]; · iexact Hh
  isplitl [Hf]; · iexact Hf
  isplitl [Hs']; · iexact Hs'
  isplitr [Ho]
  · isplitr [Hr]
    · isplitl [Hp]; · iexact Hp
      iexact Hp'
    iexact Hr
  iexact Ho

theorem ring_settle {Q : PUnit → sProp 𝕄} (b : Bool) (c : Dev nD) (s p f : ℕ) (hs : s ≤ last b) (P : Prog (Eff F) PUnit)
    {O : CellTallies nD τ sig ℕ} (hO : Above (s + 2) O) :
    iprop(env m K ∗ dirC m b c s p f ∗ debt c O
        ∗ ((core m b c (s + 1) ∗ back b c s ∗ spare b c (s + 1) ∗ sends b c (s + 1) ∗ posn b c (s + 1) ∗ work b c p f ∗ debt c O) -∗ run c P Q))
      ⊢ run c (settle b s P) Q := by
  unfold dirC core posn
  iintro ⟨#He, ⟨Hs, Hsd, ⟨⟨Hp0, Hp1, Hp2⟩, ⟨Hr0, Hr1, Hr2⟩⟩, Hw⟩, Ho, Hk⟩
  iapply (wp_settle m K b c s hs P hO)
  isplitr; · iexact He
  isplitl [Hs]; · iexact Hs
  isplitl [Hp0]; · iexact Hp0
  isplitl [Hr0]; · iexact Hr0
  isplitl [Ho]; · iexact Ho
  unfold arrive
  iintro ⟨Hf, ⟨Hh, Hg, Hb⟩, Hp3, Hr3, Ho⟩
  iapply Hk
  isplitl [Hh Hg]
  · isplitl [Hh]; · iexact Hh
    iexact Hg
  isplitl [Hb]; · iexact Hb
  isplitl [Hf]; · iapply (free_succ b c s); iexact Hf
  isplitl [Hsd]; · iexact Hsd
  isplitr [Hw Ho]
  · isplitl [Hp1 Hp2 Hp3]
    · isplitl [Hp1]; · iexact Hp1
      isplitl [Hp2]; · iexact Hp2
      iexact Hp3
    isplitl [Hr1]; · iexact Hr1
    isplitl [Hr2]; · iexact Hr2
    iexact Hr3
  isplitl [Hw]; · iexact Hw
  iexact Ho

/-- The product of a block just passed on, or of the last one: any share of the block serves. -/
theorem work_produce {Q : PUnit → sProp 𝕄} (b : Bool) (c : Dev nD) (s f : ℕ) (hs : s < cnt b) (h1 : 1 ≤ s) (hf : f ≤ s) {d : Dev nD} (hd : d = org b c s) (q : PosShare TreeShare)
    (P : Prog (Eff F) PUnit) {O₀ : CellTallies nD τ sig ℕ} (O : CellTallies nD τ sig ℕ) (hO : O₀ = O + owesP b c s) :
    iprop(env m K ∗ hold c (aM b) (mod3 s) q (wB m (org b c s)) ∗ freeN (org b c s) (qM b) s ∗ xS m c ∗ work b c s f ∗ debt c O₀
        ∗ ((hold c (aM b) (mod3 s) q (wB m (org b c s)) ∗ xS m c ∗ work b c (s + 1) f ∗ debt c O) -∗ run c P Q))
      ⊢ run c (produce b s hs d P) Q := by
  unfold work
  rw [bigSep_Ico_succ_bot hs, bigSep_Ico_succ_top hf]
  iintro ⟨#He, Hh, Hf, Hx, ⟨⟨Ht, Ht'⟩, Hw, Hd⟩, Ho, Hk⟩
  iapply (wp_produce m K b c s hs h1 hd q P O hO)
  isplitr; · iexact He
  isplitl [Hh]; · iexact Hh
  isplitl [Hx]; · iexact Hx
  isplitl [Hf]; · iexact Hf
  isplitl [Ht]; · iexact Ht
  isplitl [Ho]; · iexact Ho
  iintro ⟨Hh, Hx, Hn, Ho⟩
  iapply Hk
  isplitl [Hh]; · iexact Hh
  isplitl [Hx]; · iexact Hx
  isplitr [Ho]
  · isplitl [Ht']; · iexact Ht'
    isplitr [Hd]
    · isplitl [Hn]; · iexact Hn
      iexact Hw
    iexact Hd
  iexact Ho

theorem dir_produce {Q : PUnit → sProp 𝕄} (b : Bool) (c : Dev nD) (s f : ℕ) (hs : s < cnt b) (h1 : 1 ≤ s) (hf : f ≤ s) {d : Dev nD} (hd : d = org b c s)
    (P : Prog (Eff F) PUnit) {O₀ : CellTallies nD τ sig ℕ} (O : CellTallies nD τ sig ℕ) (hO : O₀ = O + owesP b c s) :
    iprop(env m K ∗ dirB m b c s f ∗ xS m c ∗ debt c O₀ ∗ ((dirC m b c s (s + 1) f ∗ xS m c ∗ debt c O) -∗ run c P Q))
      ⊢ run c (produce b s hs d P) Q := by
  unfold dirB dirC sentP
  iintro ⟨#He, ⟨⟨Hh, Hc⟩, Hf, Hs, Hp, Hw⟩, Hx, Ho, Hk⟩
  iapply (work_produce m K b c s f hs h1 hf hd fullShare.left P O hO)
  isplitr; · iexact He
  isplitl [Hh]; · iexact Hh
  isplitl [Hf]; · iexact Hf
  isplitl [Hx]; · iexact Hx
  isplitl [Hw]; · iexact Hw
  isplitl [Ho]; · iexact Ho
  iintro ⟨Hh, Hx, Hw, Ho⟩
  iapply Hk
  isplitr [Hx Ho]
  · isplitl [Hh Hc]
    · isplitl [Hh]; · iexact Hh
      iexact Hc
    isplitl [Hs]; · iexact Hs
    isplitl [Hp]; · iexact Hp
    iexact Hw
  isplitl [Hx]; · iexact Hx
  iexact Ho

theorem core_produce {Q : PUnit → sProp 𝕄} (b : Bool) (c : Dev nD) (s f : ℕ) (hs : s + 1 = cnt b) (h1 : 1 ≤ s) (hf : f ≤ s) {d : Dev nD} (hd : d = org b c s)
    (P : Prog (Eff F) PUnit) {O₀ : CellTallies nD τ sig ℕ} (O : CellTallies nD τ sig ℕ) (hO : O₀ = O + owesP b c s) :
    iprop(env m K ∗ core m b c s ∗ xS m c ∗ work b c s f ∗ debt c O₀
        ∗ ((free c (aM b) (mod3 s) ∗ xS m c ∗ work b c (s + 1) f ∗ debt c O) -∗ run c P Q))
      ⊢ run c (produce b s (by omega) d P) Q := by
  unfold core
  have hc : s < cnt b := by omega
  rw [grants_pop b _ s hc]
  iintro ⟨#He, ⟨Hh, Hf, -⟩, Hx, Hw, Ho, Hk⟩
  iapply (work_produce m K b c s f hc h1 hf hd fullShare P O hO)
  isplitr; · iexact He
  isplitl [Hh]; · iexact Hh
  isplitl [Hf]; · iexact Hf
  isplitl [Hx]; · iexact Hx
  isplitl [Hw]; · iexact Hw
  isplitl [Ho]; · iexact Ho
  iintro ⟨Hh, Hx, Hw, Ho⟩
  iapply Hk
  isplitl [Hh]; · iapply (free_intro c (aM b) (mod3 s) (wB m (org b c s))); iexact Hh
  isplitl [Hx]; · iexact Hx
  isplitl [Hw]; · iexact Hw
  iexact Ho

theorem work_collect {Q : PUnit → sProp 𝕄} {b b' : Bool} (hb : b' = !b) (c : Dev nD) (p k : ℕ) (hk : k < cnt b) (h1 : 1 ≤ k) (hp : k < p) {off : Fin 2 → ℕ}
    (h : ∀ a, off a + S256x128.size a ≤ S8192x128.size a) (ho : off = ![256 * (org b' c k).val, 0]) (P : Prog (Eff F) PUnit)
    {O : CellTallies nD τ sig ℕ} (hO : Above (k + 2) O) {D D' : Dev nD → Prop} (hD : ∀ o, D' o → o = org b' c k ∨ D o) :
    iprop(env m K ∗ work b c p k ∗ outS m c D ∗ debt c O ∗ ((work b c p (k + 1) ∗ outS m c D' ∗ debt c O) -∗ run c P Q))
      ⊢ run c (collect b k hk off h P) Q := by
  subst hb
  unfold work
  rw [bigSep_Ico_succ_bot hp, bigSep_Ico_succ_top h1]
  iintro ⟨#He, ⟨Ht, ⟨Hw, Hw'⟩, Hd⟩, Hout, Ho, Hk⟩
  iapply (wp_collect m K b c k hk h1 h ho P hO D)
  isplitr; · iexact He
  isplitl [Hw]; · iexact Hw
  isplitl [Hout]; · iexact Hout
  isplitl [Ho]; · iexact Ho
  iintro ⟨Hn, Hout, Ho⟩
  iapply Hk
  isplitr [Hout Ho]
  · isplitl [Ht]; · iexact Ht
    isplitl [Hw']; · iexact Hw'
    isplitl [Hn]; · iexact Hn
    iexact Hd
  isplitl [Hout]; · iapply (outS_mono m c hD); iexact Hout
  iexact Ho

/-- The same on a direction whose product of this step is sent. -/
theorem dir_collect {Q : PUnit → sProp 𝕄} {b b' : Bool} (hb : b' = !b) (c : Dev nD) (s p k : ℕ) (hk : k < cnt b) (h1 : 1 ≤ k) (hp : k < p) {off : Fin 2 → ℕ}
    (h : ∀ a, off a + S256x128.size a ≤ S8192x128.size a) (ho : off = ![256 * (org b' c k).val, 0]) (P : Prog (Eff F) PUnit)
    {O : CellTallies nD τ sig ℕ} (hO : Above (k + 2) O) {D D' : Dev nD → Prop} (hD : ∀ o, D' o → o = org b' c k ∨ D o) :
    iprop(env m K ∗ dirC m b c s p k ∗ outS m c D ∗ debt c O ∗ ((dirC m b c s p (k + 1) ∗ outS m c D' ∗ debt c O) -∗ run c P Q))
      ⊢ run c (collect b k hk off h P) Q := by
  unfold dirC
  iintro ⟨#He, ⟨Hs, Hsd, Hp, Hw⟩, Hout, Ho, Hk⟩
  iapply (work_collect m K hb c p k hk h1 hp h ho P hO hD)
  isplitr; · iexact He
  isplitl [Hw]; · iexact Hw
  isplitl [Hout]; · iexact Hout
  isplitl [Ho]; · iexact Ho
  iintro ⟨Hw, Hout, Ho⟩
  iapply Hk
  isplitr [Hout Ho]
  · isplitl [Hs]; · iexact Hs
    isplitl [Hsd]; · iexact Hsd
    isplitl [Hp]; · iexact Hp
    iexact Hw
  isplitl [Hout]; · iexact Hout
  iexact Ho

/-! ## Whole steps -/

/-- What a device holds before step `s`, the products before `f` collected. -/
def state (c : Dev nD) (s f : ℕ) : sProp 𝕄 :=
  iprop(dirA m true c s f ∗ dirA m false c s f ∗ xS m c ∗ outS m c (seen c f f) ∗ debt c (due c s s s s))

/-- The spare slot nobody needs any more: the one of the second direction once its last block is on its way. -/
def over (c : Dev nD) (s : ℕ) : sProp 𝕄 := if s = 14 then spare false c s else iprop(emp)

theorem dir_puts {Q : PUnit → sProp 𝕄} (c : Dev nD) (s f : ℕ) (h1 : 1 ≤ s) (hs : s ≤ 14) {n p : Dev nD} (hn : n = nxt true c) (hp : p = nxt false c) (P : Prog (Eff F) PUnit) :
    iprop(env m K ∗ dirA m true c s f ∗ dirA m false c s f ∗ debt c (due c s s s s)
        ∗ ((dirB m true c s f ∗ dirB m false c s f ∗ over c s ∗ debt c (due c (s + 1) (s + 1) s s)) -∗ run c P Q))
      ⊢ run c (put true s n (put false s p P)) Q := by
  have e₁ : (roomN true c s : sProp 𝕄) = room true c s := if_pos (show s ≤ 15 by omega)
  have e₂ : (roomN false c s : sProp 𝕄) = room false c s := if_pos (show s ≤ 14 by omega)
  have hback : iprop(spare false c s ∗ posn false c s) ⊢ (iprop((back true (nxt true c) s ∗ over c s) ∗ posn false c s) : sProp 𝕄) := by
    unfold over
    by_cases h : s = 14
    · rw [if_pos h]
      iintro ⟨Hs, Hp⟩
      isplitr [Hp]
      · isplitr
        · iapply (back_none (b := true) (b' := false) rfl (nxt true c) s (by subst h; decide)); iempintro
        iexact Hs
      iexact Hp
    · rw [if_neg h]
      iintro H
      ihave H := (back_intro (b := true) (b' := false) rfl c s h1 (show s + 1 ≤ 14 by omega)) $$ H
      icases H with ⟨Hb, Hp⟩
      isplitr [Hp]
      · isplitl [Hb]; · iexact Hb
        iempintro
      iexact Hp
  unfold dirA dirB
  rw [e₁, e₂]
  iintro ⟨#He, ⟨HA, HAr, HAf, HAs, HAp, HAw⟩, ⟨HB, HBr, HBf, HBs, HBp, HBw⟩, Ho, Hk⟩
  ihave H := hback $$ [HBf HBp]
  · isplitl [HBf]; · iexact HBf
    iexact HBp
  icases H with ⟨⟨Hb, Hov⟩, HBp⟩
  ihave H := (back_intro (b := false) (b' := true) rfl c s h1 (show s + 1 ≤ 15 by omega)) $$ [HAf HAp]
  · isplitl [HAf]; · iexact HAf
    iexact HAp
  icases H with ⟨Hb', HAp⟩
  iapply (ring_put m K true c s (show s ≤ 15 by omega) hn _ _ (due_put_true c s s s (by omega)))
  isplitr; · iexact He
  isplitl [HA]; · iexact HA
  isplitl [HAr]; · iexact HAr
  isplitl [Hb]; · iexact Hb
  isplitl [HAs]; · iexact HAs
  isplitl [HAp]; · iexact HAp
  isplitl [Ho]; · iexact Ho
  iintro ⟨HA, HAf, HAs, HAp, Ho⟩
  iapply (ring_put m K false c s (show s ≤ 14 by omega) hp _ _ (due_put_false c (s + 1) s s (by omega)))
  isplitr; · iexact He
  isplitl [HB]; · iexact HB
  isplitl [HBr]; · iexact HBr
  isplitl [Hb']; · iexact Hb'
  isplitl [HBs]; · iexact HBs
  isplitl [HBp]; · iexact HBp
  isplitl [Ho]; · iexact Ho
  iintro ⟨HB, HBf, HBs, HBp, Ho⟩
  iapply Hk
  isplitl [HA HAf HAs HAp HAw]
  · isplitl [HA]; · iexact HA
    isplitl [HAf]; · iexact HAf
    isplitl [HAs]; · iexact HAs
    isplitl [HAp]; · iexact HAp
    iexact HAw
  isplitl [HB HBf HBs HBp HBw]
  · isplitl [HB]; · iexact HB
    isplitl [HBf]; · iexact HBf
    isplitl [HBs]; · iexact HBs
    isplitl [HBp]; · iexact HBp
    iexact HBw
  isplitl [Hov]; · iexact Hov
  iexact Ho

theorem dir_produces {Q : PUnit → sProp 𝕄} (c : Dev nD) (s f : ℕ) (h1 : 1 ≤ s) (hs : s ≤ 14) (hf : f ≤ s) {l r : Dev nD} (hl : l = org true c s) (hr : r = org false c s)
    (P : Prog (Eff F) PUnit) (ht : s < cnt true) (hf' : s < cnt false) :
    iprop(env m K ∗ dirB m true c s f ∗ dirB m false c s f ∗ xS m c ∗ debt c (due c (s + 1) (s + 1) s s)
        ∗ ((dirC m true c s (s + 1) f ∗ dirC m false c s (s + 1) f ∗ xS m c ∗ debt c (due c (s + 1) (s + 1) (s + 1) (s + 1))) -∗ run c P Q))
      ⊢ run c (produce true s ht l (produce false s hf' r P)) Q := by
  iintro ⟨#He, HA, HB, Hx, Ho, Hk⟩
  iapply (dir_produce m K true c s f ht h1 hf hl _ _ (due_prod_true c (s + 1) (s + 1) s (by omega)))
  isplitr; · iexact He
  isplitl [HA]; · iexact HA
  isplitl [Hx]; · iexact Hx
  isplitl [Ho]; · iexact Ho
  iintro ⟨HA, Hx, Ho⟩
  iapply (dir_produce m K false c s f hf' h1 hf hr _ _ (due_prod_false c (s + 1) (s + 1) (s + 1) (by omega)))
  isplitr; · iexact He
  isplitl [HB]; · iexact HB
  isplitl [Hx]; · iexact Hx
  isplitl [Ho]; · iexact Ho
  iintro ⟨HB, Hx, Ho⟩
  iapply Hk
  isplitl [HA]; · iexact HA
  isplitl [HB]; · iexact HB
  isplitl [Hx]; · iexact Hx
  iexact Ho

/-- Both waits of a step; the rooms for the next step are the ones at hand when none came along. -/
theorem dir_settles {Q : PUnit → sProp 𝕄} (c : Dev nD) (s p f : ℕ) (hp : p = s + 1) (hs : s ≤ 14) (P : Prog (Eff F) PUnit) (R : sProp 𝕄)
    (hR : iprop(back true c s ∗ back false c s ∗ R) ⊢ iprop(roomN true c (s + 1) ∗ roomN false c (s + 1))) :
    iprop(env m K ∗ dirC m true c s p f ∗ dirC m false c s p f ∗ R ∗ debt c (due c (s + 1) (s + 1) (s + 1) (s + 1))
        ∗ ((dirA m true c (s + 1) f ∗ dirA m false c (s + 1) f ∗ debt c (due c (s + 1) (s + 1) (s + 1) (s + 1))) -∗ run c P Q))
      ⊢ run c (settle true s (settle false s P)) Q := by
  subst hp
  have hO : Above (s + 2) (due c (s + 1) (s + 1) (s + 1) (s + 1)) := above_due c (by omega) (by omega) (by omega) (by omega)
  unfold dirA
  iintro ⟨#He, HA, HB, HR, Ho, Hk⟩
  iapply (ring_settle m K true c s (s + 1) f (show s ≤ 15 by omega) _ hO)
  isplitr; · iexact He
  isplitl [HA]; · iexact HA
  isplitl [Ho]; · iexact Ho
  iintro ⟨HA, HAb, HAf, HAs, HAp, HAw, Ho⟩
  iapply (ring_settle m K false c s (s + 1) f (show s ≤ 14 by omega) _ hO)
  isplitr; · iexact He
  isplitl [HB]; · iexact HB
  isplitl [Ho]; · iexact Ho
  iintro ⟨HB, HBb, HBf, HBs, HBp, HBw, Ho⟩
  ihave H := hR $$ [HAb HBb HR]
  · isplitl [HAb]; · iexact HAb
    isplitl [HBb]; · iexact HBb
    iexact HR
  icases H with ⟨HAr, HBr⟩
  iapply Hk
  isplitl [HA HAr HAf HAs HAp HAw]
  · isplitl [HA]; · iexact HA
    isplitl [HAr]; · iexact HAr
    isplitl [HAf]; · iexact HAf
    isplitl [HAs]; · iexact HAs
    isplitl [HAp]; · iexact HAp
    iexact HAw
  isplitl [HB HBr HBf HBs HBp HBw]
  · isplitl [HB]; · iexact HB
    isplitl [HBr]; · iexact HBr
    isplitl [HBf]; · iexact HBf
    isplitl [HBs]; · iexact HBs
    isplitl [HBp]; · iexact HBp
    iexact HBw
  iexact Ho

theorem rooms_next (c : Dev nD) (s : ℕ) (h1 : 1 ≤ s) :
    iprop(back true c s ∗ back false c s ∗ emp) ⊢ (iprop(roomN true c (s + 1) ∗ roomN false c (s + 1)) : sProp 𝕄) := by
  iintro ⟨H, H', -⟩
  isplitl [H']; · iapply (back_elim (b := false) (b' := true) rfl c s h1); iexact H'
  iapply (back_elim (b := true) (b' := false) rfl c s h1); iexact H

theorem wp_early {Q : PUnit → sProp 𝕄} (c : Dev nD) (s : ℕ) (hs : s < 14) (h1 : 1 ≤ s) {n p l r : Dev nD} (hn : n = nxt true c) (hp : p = nxt false c)
    (hl : l = org true c s) (hr : r = org false c s) (P : Prog (Eff F) PUnit) :
    iprop(env m K ∗ state m c s 1 ∗ (state m c (s + 1) 1 -∗ run c P Q)) ⊢ run c (early s hs n p l r P) Q := by
  unfold state early
  iintro ⟨#He, ⟨HA, HB, Hx, Hout, Ho⟩, Hk⟩
  iapply (dir_puts m K c s 1 h1 (by omega) hn hp)
  isplitr; · iexact He
  isplitl [HA]; · iexact HA
  isplitl [HB]; · iexact HB
  isplitl [Ho]; · iexact Ho
  iintro ⟨HA, HB, -, Ho⟩
  iapply (dir_produces m K c s 1 h1 (by omega) h1 hl hr)
  isplitr; · iexact He
  isplitl [HA]; · iexact HA
  isplitl [HB]; · iexact HB
  isplitl [Hx]; · iexact Hx
  isplitl [Ho]; · iexact Ho
  iintro ⟨HA, HB, Hx, Ho⟩
  iapply (dir_settles m K c s (s + 1) 1 rfl (by omega) _ iprop(emp) (rooms_next c s h1))
  isplitr; · iexact He
  isplitl [HA]; · iexact HA
  isplitl [HB]; · iexact HB
  isplitr; · iempintro
  isplitl [Ho]; · iexact Ho
  iintro ⟨HA, HB, Ho⟩
  iapply Hk
  isplitl [HA]; · iexact HA
  isplitl [HB]; · iexact HB
  isplitl [Hx]; · iexact Hx
  isplitl [Hout]; · iexact Hout
  iexact Ho

theorem wp_mid {Q : PUnit → sProp 𝕄} (c : Dev nD) (k : ℕ) (hk : k < 13) (h1 : 1 ≤ k) {n p l r : Dev nD} (hn : n = nxt true c) (hp : p = nxt false c)
    (hl : l = org true c (k + 2)) (hr : r = org false c (k + 2)) {offR offL : Fin 2 → ℕ} (hR : ∀ a, offR a + S256x128.size a ≤ S8192x128.size a)
    (hL : ∀ a, offL a + S256x128.size a ≤ S8192x128.size a) (eR : offR = ![256 * (org false c k).val, 0]) (eL : offL = ![256 * (org true c k).val, 0])
    (P : Prog (Eff F) PUnit) :
    iprop(env m K ∗ state m c (k + 2) k ∗ ((state m c (k + 3) (k + 1) ∗ over c (k + 2)) -∗ run c P Q)) ⊢ run c (mid k hk n p l r offR offL hR hL P) Q := by
  have hO : Above (k + 2) (due c (k + 2 + 1) (k + 2 + 1) (k + 2 + 1) (k + 2 + 1)) := above_due c (by omega) (by omega) (by omega) (by omega)
  unfold state mid
  iintro ⟨#He, ⟨HA, HB, Hx, Hout, Ho⟩, Hk⟩
  iapply (dir_puts m K c (k + 2) k (by omega) (by omega) hn hp)
  isplitr; · iexact He
  isplitl [HA]; · iexact HA
  isplitl [HB]; · iexact HB
  isplitl [Ho]; · iexact Ho
  iintro ⟨HA, HB, Hov, Ho⟩
  iapply (dir_produces m K c (k + 2) k (by omega) (by omega) (by omega) hl hr)
  isplitr; · iexact He
  isplitl [HA]; · iexact HA
  isplitl [HB]; · iexact HB
  isplitl [Hx]; · iexact Hx
  isplitl [Ho]; · iexact Ho
  iintro ⟨HA, HB, Hx, Ho⟩
  iapply (dir_collect m K (b := true) (b' := false) rfl c (k + 2) (k + 2 + 1) k (show k < 17 by omega) h1 (by omega) hR eR _ hO (D := seen c k k) (D' := seen c (k + 1) k) (fun o => seen_true))
  isplitr; · iexact He
  isplitl [HA]; · iexact HA
  isplitl [Hout]; · iexact Hout
  isplitl [Ho]; · iexact Ho
  iintro ⟨HA, Hout, Ho⟩
  iapply (dir_collect m K (b := false) (b' := true) rfl c (k + 2) (k + 2 + 1) k (show k < 16 by omega) h1 (by omega) hL eL _ hO (D := seen c (k + 1) k) (D' := seen c (k + 1) (k + 1)) (fun o => seen_false))
  isplitr; · iexact He
  isplitl [HB]; · iexact HB
  isplitl [Hout]; · iexact Hout
  isplitl [Ho]; · iexact Ho
  iintro ⟨HB, Hout, Ho⟩
  iapply (dir_settles m K c (k + 2) (k + 2 + 1) (k + 1) rfl (by omega) _ iprop(emp) (rooms_next c (k + 2) (by omega)))
  isplitr; · iexact He
  isplitl [HA]; · iexact HA
  isplitl [HB]; · iexact HB
  isplitr; · iempintro
  isplitl [Ho]; · iexact Ho
  iintro ⟨HA, HB, Ho⟩
  iapply Hk
  isplitr [Hov]
  · isplitl [HA]; · iexact HA
    isplitl [HB]; · iexact HB
    isplitl [Hx]; · iexact Hx
    isplitl [Hout]; · iexact Hout
    iexact Ho
  iexact Hov

/-- One direction before step 0: no slot to give back yet, the rooms for steps 0 and 1. -/
def dir0 (b : Bool) (c : Dev nD) : sProp 𝕄 := iprop(core m b c 0 ∗ (room b c 0 ∗ room b c 1) ∗ sends b c 0 ∗ posn b c 0 ∗ work b c 1 1)

/-- The slots of the device for products with itself: never used. -/
def home (c : Dev nD) : sProp 𝕄 := iprop(freeN (org true c 0) (qM true) 0 ∗ freeN (org false c 0) (qM false) 0)

theorem wp_first {Q : PUnit → sProp 𝕄} (c : Dev nD) {n p : Dev nD} (hn : n = nxt true c) (hp : p = nxt false c) {off : Fin 2 → ℕ}
    (h : ∀ a, off a + S256x128.size a ≤ S8192x128.size a) (ho : off = ![256 * c.val, 0]) (P : Prog (Eff F) PUnit) :
    iprop(env m K ∗ dir0 m true c ∗ dir0 m false c ∗ xS m c ∗ outS m c (fun _ => False) ∗ debt c (due c 0 0 1 1) ∗ ((state m c 1 1 ∗ home c) -∗ run c P Q))
      ⊢ run c (first n p off h P) Q := by
  have hb (b b' : Bool) (hb : b' = !b) (c : Dev nD) : (emp : sProp 𝕄) ⊢ back b c 0 := back_none hb c 0 (fun h => absurd h.1 (by decide))
  have e₁ : (roomN true c (0 + 1) : sProp 𝕄) = room true c 1 := if_pos (show 1 ≤ 15 by omega)
  have e₂ : (roomN false c (0 + 1) : sProp 𝕄) = room false c 1 := if_pos (show 1 ≤ 14 by omega)
  have hR : iprop(back true c 0 ∗ back false c 0 ∗ (room true c 1 ∗ room false c 1)) ⊢ (iprop(roomN true c (0 + 1) ∗ roomN false c (0 + 1)) : sProp 𝕄) := by
    rw [e₁, e₂]; iintro ⟨-, -, H⟩; iexact H
  unfold dir0 first
  iintro ⟨#He, ⟨HA, ⟨HAr, HAr'⟩, HAs, HAp, HAw⟩, ⟨HB, ⟨HBr, HBr'⟩, HBs, HBp, HBw⟩, Hx, Hout, Ho, Hk⟩
  iapply (ring_put m K true c 0 (by decide) hn _ _ (due_put_true c 0 1 1 (by omega)))
  isplitr; · iexact He
  isplitl [HA]; · iexact HA
  isplitl [HAr]; · iexact HAr
  isplitr; · iapply (hb true false rfl (nxt true c)); iempintro
  isplitl [HAs]; · iexact HAs
  isplitl [HAp]; · iexact HAp
  isplitl [Ho]; · iexact Ho
  iintro ⟨HA, HAf, HAs, HAp, Ho⟩
  iapply (ring_put m K false c 0 (by decide) hp _ _ (due_put_false c (0 + 1) 1 1 (by omega)))
  isplitr; · iexact He
  isplitl [HB]; · iexact HB
  isplitl [HBr]; · iexact HBr
  isplitr; · iapply (hb false true rfl (nxt false c)); iempintro
  isplitl [HBs]; · iexact HBs
  isplitl [HBp]; · iexact HBp
  isplitl [Ho]; · iexact Ho
  iintro ⟨HB, HBf, HBs, HBp, Ho⟩
  unfold sentP
  icases HA with ⟨HA, HAc⟩
  iapply (wp_own m c h ho _ fullShare.left (fun _ => False))
  isplitl [HA]; · iexact HA
  isplitl [Hx]; · iexact Hx
  isplitl [Hout]; · iexact Hout
  iintro ⟨HA, Hx, Hout⟩
  iapply (dir_settles m K c 0 (0 + 1) 1 rfl (by omega) _ _ hR)
  isplitr; · iexact He
  isplitl [HA HAc HAs HAp HAw]
  · unfold dirC sentP
    isplitl [HA HAc]
    · isplitl [HA]; · iexact HA
      iexact HAc
    isplitl [HAs]; · iexact HAs
    isplitl [HAp]; · iexact HAp
    iexact HAw
  isplitl [HB HBs HBp HBw]
  · unfold dirC sentP
    isplitl [HB]; · iexact HB
    isplitl [HBs]; · iexact HBs
    isplitl [HBp]; · iexact HBp
    iexact HBw
  isplitl [HAr' HBr']
  · isplitl [HAr']; · iexact HAr'
    iexact HBr'
  isplitl [Ho]; · iexact Ho
  iintro ⟨HA, HB, Ho⟩
  iapply Hk
  unfold state home
  isplitr [HAf HBf]
  · isplitl [HA]; · iexact HA
    isplitl [HB]; · iexact HB
    isplitl [Hx]; · iexact Hx
    isplitl [Hout]; · iapply (outS_mono m c (fun o => seen_self)); iexact Hout
    iexact Ho
  isplitl [HAf]; · iexact HAf
  iexact HBf

end Cert.KernelIdeal.Ring

end
-- ==== Proof.KernelIdeal.Body.lean ====
/-
The whole body on one device: the steps one after the other, and the semaphores back at zero after the last.
-/
module

public import proofs.«01_k».proof.Proof.KernelIdeal.Steps

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (K : Dev nD × Fin 79 → ℕ)

/-! ## Which devices, which rows -/

theorem off2_at (c : Dev nD) (r : Fin 16) : k0_off2 c (BitVec.ofNat 32 (1 + r.val)) = ![256 * (org false c (r.val + 1)).val, 0] :=
  (k0_off2_eq c r).trans (by show _ = ![256 * ((c.val + (r.val + 1)) % 32), 0]; rw [Nat.add_assoc])
theorem off3_at (c : Dev nD) (r : Fin 15) : k0_off3 c (BitVec.ofNat 32 (1 + r.val)) = ![256 * (org true c (r.val + 1)).val, 0] :=
  (k0_off3_eq c r).trans (by
    show _ = ![256 * ((c.val + (32 - (r.val + 1))) % 32), 0]
    have h : (c.val + 31) - r.val = c.val + (32 - (r.val + 1)) := by have := r.isLt; omega
    rw [h])

theorem to1 (c : Dev nD) : (⟨k0_dev1 c, k0_dev1_lt c⟩ : Dev nD) = nxt false c := Fin.ext (k0_dev1_eq c)
theorem to2 (c : Dev nD) : (⟨k0_dev2 c, k0_dev2_lt c⟩ : Dev nD) = nxt true c := Fin.ext (k0_dev2_eq c)
theorem to3 (c : Dev nD) : (⟨k0_dev3 c, k0_dev3_lt c⟩ : Dev nD) = nxt true c := Fin.ext (k0_dev3_eq c)
theorem to4 (c : Dev nD) : (⟨k0_dev4 c, k0_dev4_lt c⟩ : Dev nD) = nxt false c := Fin.ext (k0_dev4_eq c)
theorem to5 (c : Dev nD) : (⟨k0_dev5 c, k0_dev5_lt c⟩ : Dev nD) = nxt true c := Fin.ext (k0_dev5_eq c)
theorem to6 (c : Dev nD) : (⟨k0_dev6 c, k0_dev6_lt c⟩ : Dev nD) = nxt false c := Fin.ext (k0_dev6_eq c)
theorem to7 (c : Dev nD) : (⟨k0_dev7 c, k0_dev7_lt c⟩ : Dev nD) = org true c 1 := Fin.ext (k0_dev7_eq c)
theorem to8 (c : Dev nD) : (⟨k0_dev8 c, k0_dev8_lt c⟩ : Dev nD) = org false c 1 := Fin.ext (k0_dev8_eq c)
theorem to9 (c : Dev nD) : (⟨k0_dev9 c, k0_dev9_lt c⟩ : Dev nD) = nxt true c := Fin.ext (k0_dev9_eq c)
theorem to10 (c : Dev nD) : (⟨k0_dev10 c, k0_dev10_lt c⟩ : Dev nD) = nxt false c := Fin.ext (k0_dev10_eq c)
theorem to11 (c : Dev nD) : (⟨k0_dev11 c, k0_dev11_lt c⟩ : Dev nD) = org true c 2 := Fin.ext (k0_dev11_eq c)
theorem to12 (c : Dev nD) : (⟨k0_dev12 c, k0_dev12_lt c⟩ : Dev nD) = org false c 2 := Fin.ext (k0_dev12_eq c)
theorem to13 (c : Dev nD) : (⟨k0_dev13 c, k0_dev13_lt c⟩ : Dev nD) = nxt true c := Fin.ext (k0_dev13_eq c)
theorem to14 (c : Dev nD) : (⟨k0_dev14 c, k0_dev14_lt c⟩ : Dev nD) = nxt false c := Fin.ext (k0_dev14_eq c)
theorem to15 (c : Dev nD) : (⟨k0_dev15 c, k0_dev15_lt c⟩ : Dev nD) = org true c 3 := Fin.ext (k0_dev15_eq c)
theorem to16 (c : Dev nD) : (⟨k0_dev16 c, k0_dev16_lt c⟩ : Dev nD) = org false c 3 := Fin.ext (k0_dev16_eq c)
theorem to17 (c : Dev nD) : (⟨k0_dev17 c, k0_dev17_lt c⟩ : Dev nD) = nxt true c := Fin.ext (k0_dev17_eq c)
theorem to18 (c : Dev nD) : (⟨k0_dev18 c, k0_dev18_lt c⟩ : Dev nD) = nxt false c := Fin.ext (k0_dev18_eq c)
theorem to19 (c : Dev nD) : (⟨k0_dev19 c, k0_dev19_lt c⟩ : Dev nD) = org true c 4 := Fin.ext (k0_dev19_eq c)
theorem to20 (c : Dev nD) : (⟨k0_dev20 c, k0_dev20_lt c⟩ : Dev nD) = org false c 4 := Fin.ext (k0_dev20_eq c)
theorem to21 (c : Dev nD) : (⟨k0_dev21 c, k0_dev21_lt c⟩ : Dev nD) = nxt true c := Fin.ext (k0_dev21_eq c)
theorem to22 (c : Dev nD) : (⟨k0_dev22 c, k0_dev22_lt c⟩ : Dev nD) = nxt false c := Fin.ext (k0_dev22_eq c)
theorem to23 (c : Dev nD) : (⟨k0_dev23 c, k0_dev23_lt c⟩ : Dev nD) = org true c 5 := Fin.ext (k0_dev23_eq c)
theorem to24 (c : Dev nD) : (⟨k0_dev24 c, k0_dev24_lt c⟩ : Dev nD) = org false c 5 := Fin.ext (k0_dev24_eq c)
theorem to25 (c : Dev nD) : (⟨k0_dev25 c, k0_dev25_lt c⟩ : Dev nD) = nxt true c := Fin.ext (k0_dev25_eq c)
theorem to26 (c : Dev nD) : (⟨k0_dev26 c, k0_dev26_lt c⟩ : Dev nD) = nxt false c := Fin.ext (k0_dev26_eq c)
theorem to27 (c : Dev nD) : (⟨k0_dev27 c, k0_dev27_lt c⟩ : Dev nD) = org true c 6 := Fin.ext (k0_dev27_eq c)
theorem to28 (c : Dev nD) : (⟨k0_dev28 c, k0_dev28_lt c⟩ : Dev nD) = org false c 6 := Fin.ext (k0_dev28_eq c)
theorem to29 (c : Dev nD) : (⟨k0_dev29 c, k0_dev29_lt c⟩ : Dev nD) = nxt true c := Fin.ext (k0_dev29_eq c)
theorem to30 (c : Dev nD) : (⟨k0_dev30 c, k0_dev30_lt c⟩ : Dev nD) = nxt false c := Fin.ext (k0_dev30_eq c)
theorem to31 (c : Dev nD) : (⟨k0_dev31 c, k0_dev31_lt c⟩ : Dev nD) = org true c 7 := Fin.ext (k0_dev31_eq c)
theorem to32 (c : Dev nD) : (⟨k0_dev32 c, k0_dev32_lt c⟩ : Dev nD) = org false c 7 := Fin.ext (k0_dev32_eq c)
theorem to33 (c : Dev nD) : (⟨k0_dev33 c, k0_dev33_lt c⟩ : Dev nD) = nxt true c := Fin.ext (k0_dev33_eq c)
theorem to34 (c : Dev nD) : (⟨k0_dev34 c, k0_dev34_lt c⟩ : Dev nD) = nxt false c := Fin.ext (k0_dev34_eq c)
theorem to35 (c : Dev nD) : (⟨k0_dev35 c, k0_dev35_lt c⟩ : Dev nD) = org true c 8 := Fin.ext (k0_dev35_eq c)
theorem to36 (c : Dev nD) : (⟨k0_dev36 c, k0_dev36_lt c⟩ : Dev nD) = org false c 8 := Fin.ext (k0_dev36_eq c)
theorem to37 (c : Dev nD) : (⟨k0_dev37 c, k0_dev37_lt c⟩ : Dev nD) = nxt true c := Fin.ext (k0_dev37_eq c)
theorem to38 (c : Dev nD) : (⟨k0_dev38 c, k0_dev38_lt c⟩ : Dev nD) = nxt false c := Fin.ext (k0_dev38_eq c)
theorem to39 (c : Dev nD) : (⟨k0_dev39 c, k0_dev39_lt c⟩ : Dev nD) = org true c 9 := Fin.ext (k0_dev39_eq c)
theorem to40 (c : Dev nD) : (⟨k0_dev40 c, k0_dev40_lt c⟩ : Dev nD) = org false c 9 := Fin.ext (k0_dev40_eq c)
theorem to41 (c : Dev nD) : (⟨k0_dev41 c, k0_dev41_lt c⟩ : Dev nD) = nxt true c := Fin.ext (k0_dev41_eq c)
theorem to42 (c : Dev nD) : (⟨k0_dev42 c, k0_dev42_lt c⟩ : Dev nD) = nxt false c := Fin.ext (k0_dev42_eq c)
theorem to43 (c : Dev nD) : (⟨k0_dev43 c, k0_dev43_lt c⟩ : Dev nD) = org true c 10 := Fin.ext (k0_dev43_eq c)
theorem to44 (c : Dev nD) : (⟨k0_dev44 c, k0_dev44_lt c⟩ : Dev nD) = org false c 10 := Fin.ext (k0_dev44_eq c)
theorem to45 (c : Dev nD) : (⟨k0_dev45 c, k0_dev45_lt c⟩ : Dev nD) = nxt true c := Fin.ext (k0_dev45_eq c)
theorem to46 (c : Dev nD) : (⟨k0_dev46 c, k0_dev46_lt c⟩ : Dev nD) = nxt false c := Fin.ext (k0_dev46_eq c)
theorem to47 (c : Dev nD) : (⟨k0_dev47 c, k0_dev47_lt c⟩ : Dev nD) = org true c 11 := Fin.ext (k0_dev47_eq c)
theorem to48 (c : Dev nD) : (⟨k0_dev48 c, k0_dev48_lt c⟩ : Dev nD) = org false c 11 := Fin.ext (k0_dev48_eq c)
theorem to49 (c : Dev nD) : (⟨k0_dev49 c, k0_dev49_lt c⟩ : Dev nD) = nxt true c := Fin.ext (k0_dev49_eq c)
theorem to50 (c : Dev nD) : (⟨k0_dev50 c, k0_dev50_lt c⟩ : Dev nD) = nxt false c := Fin.ext (k0_dev50_eq c)
theorem to51 (c : Dev nD) : (⟨k0_dev51 c, k0_dev51_lt c⟩ : Dev nD) = org true c 12 := Fin.ext (k0_dev51_eq c)
theorem to52 (c : Dev nD) : (⟨k0_dev52 c, k0_dev52_lt c⟩ : Dev nD) = org false c 12 := Fin.ext (k0_dev52_eq c)
theorem to53 (c : Dev nD) : (⟨k0_dev53 c, k0_dev53_lt c⟩ : Dev nD) = nxt true c := Fin.ext (k0_dev53_eq c)
theorem to54 (c : Dev nD) : (⟨k0_dev54 c, k0_dev54_lt c⟩ : Dev nD) = nxt false c := Fin.ext (k0_dev54_eq c)
theorem to55 (c : Dev nD) : (⟨k0_dev55 c, k0_dev55_lt c⟩ : Dev nD) = org true c 13 := Fin.ext (k0_dev55_eq c)
theorem to56 (c : Dev nD) : (⟨k0_dev56 c, k0_dev56_lt c⟩ : Dev nD) = org false c 13 := Fin.ext (k0_dev56_eq c)
theorem to57 (c : Dev nD) : (⟨k0_dev57 c, k0_dev57_lt c⟩ : Dev nD) = nxt true c := Fin.ext (k0_dev57_eq c)
theorem to58 (c : Dev nD) : (⟨k0_dev58 c, k0_dev58_lt c⟩ : Dev nD) = nxt false c := Fin.ext (k0_dev58_eq c)
theorem to59 (c : Dev nD) : (⟨k0_dev59 c, k0_dev59_lt c⟩ : Dev nD) = org true c 14 := Fin.ext (k0_dev59_eq c)
theorem to60 (c : Dev nD) : (⟨k0_dev60 c, k0_dev60_lt c⟩ : Dev nD) = org false c 14 := Fin.ext (k0_dev60_eq c)
theorem to61 (c : Dev nD) : (⟨k0_dev61 c, k0_dev61_lt c⟩ : Dev nD) = nxt true c := Fin.ext (k0_dev61_eq c)
theorem to62 (c : Dev nD) : (⟨k0_dev62 c, k0_dev62_lt c⟩ : Dev nD) = org true c 15 := Fin.ext (k0_dev62_eq c)
theorem to63 (c : Dev nD) : (⟨k0_dev63 c, k0_dev63_lt c⟩ : Dev nD) = org false c 15 := Fin.ext (k0_dev63_eq c)
theorem to64 (c : Dev nD) : (⟨k0_dev64 c, k0_dev64_lt c⟩ : Dev nD) = org true c 16 := Fin.ext (k0_dev64_eq c)
theorem rowsR1 (c : Dev nD) : k0_off2 c 1#32 = ![256 * (org false c 1).val, 0] := off2_at c 0
theorem rowsR2 (c : Dev nD) : k0_off2 c 2#32 = ![256 * (org false c 2).val, 0] := off2_at c 1
theorem rowsR3 (c : Dev nD) : k0_off2 c 3#32 = ![256 * (org false c 3).val, 0] := off2_at c 2
theorem rowsR4 (c : Dev nD) : k0_off2 c 4#32 = ![256 * (org false c 4).val, 0] := off2_at c 3
theorem rowsR5 (c : Dev nD) : k0_off2 c 5#32 = ![256 * (org false c 5).val, 0] := off2_at c 4
theorem rowsR6 (c : Dev nD) : k0_off2 c 6#32 = ![256 * (org false c 6).val, 0] := off2_at c 5
theorem rowsR7 (c : Dev nD) : k0_off2 c 7#32 = ![256 * (org false c 7).val, 0] := off2_at c 6
theorem rowsR8 (c : Dev nD) : k0_off2 c 8#32 = ![256 * (org false c 8).val, 0] := off2_at c 7
theorem rowsR9 (c : Dev nD) : k0_off2 c 9#32 = ![256 * (org false c 9).val, 0] := off2_at c 8
theorem rowsR10 (c : Dev nD) : k0_off2 c 10#32 = ![256 * (org false c 10).val, 0] := off2_at c 9
theorem rowsR11 (c : Dev nD) : k0_off2 c 11#32 = ![256 * (org false c 11).val, 0] := off2_at c 10
theorem rowsR12 (c : Dev nD) : k0_off2 c 12#32 = ![256 * (org false c 12).val, 0] := off2_at c 11
theorem rowsR13 (c : Dev nD) : k0_off2 c 13#32 = ![256 * (org false c 13).val, 0] := off2_at c 12
theorem rowsR14 (c : Dev nD) : k0_off2 c 14#32 = ![256 * (org false c 14).val, 0] := off2_at c 13
theorem rowsR15 (c : Dev nD) : k0_off2 c 15#32 = ![256 * (org false c 15).val, 0] := off2_at c 14
theorem rowsR16 (c : Dev nD) : k0_off2 c 16#32 = ![256 * (org false c 16).val, 0] := off2_at c 15
theorem rowsL1 (c : Dev nD) : k0_off3 c 1#32 = ![256 * (org true c 1).val, 0] := off3_at c 0
theorem rowsL2 (c : Dev nD) : k0_off3 c 2#32 = ![256 * (org true c 2).val, 0] := off3_at c 1
theorem rowsL3 (c : Dev nD) : k0_off3 c 3#32 = ![256 * (org true c 3).val, 0] := off3_at c 2
theorem rowsL4 (c : Dev nD) : k0_off3 c 4#32 = ![256 * (org true c 4).val, 0] := off3_at c 3
theorem rowsL5 (c : Dev nD) : k0_off3 c 5#32 = ![256 * (org true c 5).val, 0] := off3_at c 4
theorem rowsL6 (c : Dev nD) : k0_off3 c 6#32 = ![256 * (org true c 6).val, 0] := off3_at c 5
theorem rowsL7 (c : Dev nD) : k0_off3 c 7#32 = ![256 * (org true c 7).val, 0] := off3_at c 6
theorem rowsL8 (c : Dev nD) : k0_off3 c 8#32 = ![256 * (org true c 8).val, 0] := off3_at c 7
theorem rowsL9 (c : Dev nD) : k0_off3 c 9#32 = ![256 * (org true c 9).val, 0] := off3_at c 8
theorem rowsL10 (c : Dev nD) : k0_off3 c 10#32 = ![256 * (org true c 10).val, 0] := off3_at c 9
theorem rowsL11 (c : Dev nD) : k0_off3 c 11#32 = ![256 * (org true c 11).val, 0] := off3_at c 10
theorem rowsL12 (c : Dev nD) : k0_off3 c 12#32 = ![256 * (org true c 12).val, 0] := off3_at c 11
theorem rowsL13 (c : Dev nD) : k0_off3 c 13#32 = ![256 * (org true c 13).val, 0] := off3_at c 12
theorem rowsL14 (c : Dev nD) : k0_off3 c 14#32 = ![256 * (org true c 14).val, 0] := off3_at c 13
theorem rowsL15 (c : Dev nD) : k0_off3 c 15#32 = ![256 * (org true c 15).val, 0] := off3_at c 14
/-- Every device's rows are made in the end. -/
theorem seen_all (c o : Dev nD) : seen c 17 16 o := by
  have hc := dev_lt c
  have ho := dev_lt o
  by_cases h : o.val = c.val
  · exact Or.inl (Fin.ext h)
  by_cases h1 : (o.val + 32 - c.val) % 32 ≤ 16
  · refine Or.inr (Or.inl ⟨(o.val + 32 - c.val) % 32, by omega, by omega, Fin.ext ?_⟩)
    show o.val = (c.val + (o.val + 32 - c.val) % 32) % 32
    omega
  · refine Or.inr (Or.inr ⟨(c.val + 32 - o.val) % 32, by omega, by omega, Fin.ext ?_⟩)
    show o.val = (c.val + (32 - (c.val + 32 - o.val) % 32)) % 32
    omega

/-! ## The steps after the last pair -/

theorem run_ret {Q : PUnit → sProp 𝕄} (c : Dev nD) : Q ⟨⟩ ⊢ run c (.ret ⟨⟩) Q := by
  unfold run; rw [wp_ret]; exact fupd_intro

theorem free_at (b : Bool) (c : Dev nD) {i j : ℕ} (h : i % 3 = j % 3) : (free c (aM b) (mod3 i) : sProp 𝕄) ⊢ free c (aM b) (mod3 j) := by
  have e : ∀ {i j : ℕ} (hi : i < 3) (hj : j < 3), i = j → (free c (aM b) hi : sProp 𝕄) ⊢ free c (aM b) hj := by
    intro i j hi hj h; subst h; exact .rfl
  exact e _ _ h

/-- All three slots of both directions are free. -/
def slots (b : Bool) (c : Dev nD) : sProp 𝕄 := iprop(free c (aM b) (mod3 0) ∗ free c (aM b) (mod3 1) ∗ free c (aM b) (mod3 2))

/-- What a device holds after the last piece. -/
def fin1 (b : Bool) (c : Dev nD) : sProp 𝕄 := iprop(slots b c ∗ posn b c (last b + 1) ∗ bigSep (Finset.Ico 1 (cnt b)) (fun k => doneP b c k))

theorem due_flat (c : Dev nD) (p p' : ℕ) (a : ℕ) : due c a 15 p p' = due c a 16 p p' := by
  unfold due; rw [dueA_end false c (s := 15) (by decide), dueA_end false c (s := 16) (by decide)]
theorem due_flat' (c : Dev nD) (a a' p : ℕ) : due c a a' p 16 = due c a a' p 17 := by
  unfold due; rw [dueP_end false c (s := 16) (by decide), dueP_end false c (s := 17) (by decide)]

theorem wp_last {Q : PUnit → sProp 𝕄} (c : Dev nD) {n l r l' : Dev nD} (hn : n = nxt true c) (hl : l = org true c 15) (hr : r = org false c 15) (hl' : l' = org true c 16)
    {o13 o14 o15 o16 u13 u14 u15 : Fin 2 → ℕ} (i13 : ∀ a, o13 a + S256x128.size a ≤ S8192x128.size a) (i14 : ∀ a, o14 a + S256x128.size a ≤ S8192x128.size a)
    (i15 : ∀ a, o15 a + S256x128.size a ≤ S8192x128.size a) (i16 : ∀ a, o16 a + S256x128.size a ≤ S8192x128.size a)
    (j13 : ∀ a, u13 a + S256x128.size a ≤ S8192x128.size a) (j14 : ∀ a, u14 a + S256x128.size a ≤ S8192x128.size a)
    (j15 : ∀ a, u15 a + S256x128.size a ≤ S8192x128.size a)
    (e13 : o13 = ![256 * (org false c 13).val, 0]) (e14 : o14 = ![256 * (org false c 14).val, 0]) (e15 : o15 = ![256 * (org false c 15).val, 0])
    (e16 : o16 = ![256 * (org false c 16).val, 0])
    (f13 : u13 = ![256 * (org true c 13).val, 0]) (f14 : u14 = ![256 * (org true c 14).val, 0]) (f15 : u15 = ![256 * (org true c 15).val, 0])
    (h15 : 15 < cnt true) (h15' : 15 < cnt false) (h13 : 13 < cnt true) (h13' : 13 < cnt false) (h16 : 16 < cnt true) (h14 : 14 < cnt true) (h14' : 14 < cnt false) :
    iprop(env m K ∗ state m c 15 13 ∗ over c 14 ∗ ((fin1 true c ∗ fin1 false c ∗ xS m c ∗ outS m c (fun _ => True) ∗ debt c 0) -∗ Q ⟨⟩))
      ⊢ run c (put true 15 n <| produce true 15 h15 l <| produce false 15 h15' r <| collect true 13 h13 o13 i13 <| collect false 13 h13' u13 j13 <|
          settle true 15 <| produce true 16 h16 l' <| collect true 14 h14 o14 i14 <| collect true 15 h15 o15 i15 <| collect true 16 h16 o16 i16 <|
          collect false 14 h14' u14 j14 <| collect false 15 h15' u15 j15 <| .ret ⟨⟩) Q := by
  have e₁ : (roomN true c 15 : sProp 𝕄) = room true c 15 := if_pos (by decide)
  have hO : Above (13 + 2) (due c 16 15 16 16) := above_due c (by omega) (by omega) (by omega) (by omega)
  have hO' : Above (15 + 2) (due c 16 15 16 16) := by
    rw [due_flat]; exact above_due c (by omega) (by omega) (by omega) (by omega)
  have hw (b : Bool) (p f : ℕ) (hp : cnt b ≤ p) (hf : f = cnt b) : work (F := F) b c p f ⊢ bigSep (Finset.Ico 1 (cnt b)) (fun k => doneP b c k) := by
    subst hf; unfold work; iintro ⟨-, -, H⟩; iexact H
  have hov : (over c 14 : sProp 𝕄) ⊢ free c (aM false) (mod3 1) := by
    unfold over spare; rw [if_pos rfl]
  unfold state dirA
  iintro ⟨#He, ⟨⟨HA, HAr, HAf, HAs, HAp, HAw⟩, ⟨HB, -, HBf, -, HBp, HBw⟩, Hx, Hout, Ho⟩, Hov, Hk⟩
  iapply (ring_put m K true c 15 (show 15 ≤ 15 by omega) hn _ _ (due_put_true c 15 15 15 (by omega)))
  isplitr; · iexact He
  isplitl [HA]; · iexact HA
  isplitl [HAr]; · iapply (Entails.of_eq e₁); iexact HAr
  isplitr; · iapply (back_none (b := true) (b' := false) rfl (nxt true c) 15 (by decide)); iempintro
  isplitl [HAs]; · iexact HAs
  isplitl [HAp]; · iexact HAp
  isplitl [Ho]; · iexact Ho
  iintro ⟨HA, HAg, HAs, HAp, Ho⟩
  iapply (dir_produce m K true c 15 13 h15 (by omega) (by omega) hl _ _ (due_prod_true c 16 15 15 (by omega)))
  isplitr; · iexact He
  isplitl [HA HAg HAs HAp HAw]
  · unfold dirB
    isplitl [HA]; · iexact HA
    isplitl [HAg]; · iexact HAg
    isplitl [HAs]; · iexact HAs
    isplitl [HAp]; · iexact HAp
    iexact HAw
  isplitl [Hx]; · iexact Hx
  isplitl [Ho]; · iexact Ho
  iintro ⟨HA, Hx, Ho⟩
  iapply (core_produce m K false c 15 13 rfl (by omega) (by omega) hr _ _ (due_prod_false c 16 15 16 (by omega)))
  isplitr; · iexact He
  isplitl [HB]; · iexact HB
  isplitl [Hx]; · iexact Hx
  isplitl [HBw]; · iexact HBw
  isplitl [Ho]; · iexact Ho
  iintro ⟨HB, Hx, HBw, Ho⟩
  iapply (dir_collect m K (b := true) (b' := false) rfl c 15 16 13 h13 (by omega) (by omega) i13 e13 _ hO (D := seen c 13 13) (D' := seen c 14 13) (fun o => seen_true))
  isplitr; · iexact He
  isplitl [HA]; · iexact HA
  isplitl [Hout]; · iexact Hout
  isplitl [Ho]; · iexact Ho
  iintro ⟨HA, Hout, Ho⟩
  iapply (work_collect m K (b := false) (b' := true) rfl c 16 13 h13' (by omega) (by omega) j13 f13 _ hO (D := seen c 14 13) (D' := seen c 14 14) (fun o => seen_false))
  isplitr; · iexact He
  isplitl [HBw]; · iexact HBw
  isplitl [Hout]; · iexact Hout
  isplitl [Ho]; · iexact Ho
  iintro ⟨HBw, Hout, Ho⟩
  iapply (ring_settle m K true c 15 16 14 (by decide) _ hO')
  isplitr; · iexact He
  isplitl [HA]; · iexact HA
  isplitl [Ho]; · iexact Ho
  iintro ⟨HA, -, HAf', -, HAp, HAw, Ho⟩
  iapply (core_produce m K true c 16 14 rfl (by omega) (by omega) hl' _ 0 ((due_prod_true c 16 15 (p := 16) 16 (by omega)).trans (by rw [due_end])))
  isplitr; · iexact He
  isplitl [HA]; · iexact HA
  isplitl [Hx]; · iexact Hx
  isplitl [HAw]; · iexact HAw
  isplitl [Ho]; · iexact Ho
  iintro ⟨HA, Hx, HAw, Ho⟩
  iapply (work_collect m K (b := true) (b' := false) rfl c 17 14 h14 (by omega) (by omega) i14 e14 _ (above_zero _) (D := seen c 14 14) (D' := seen c 15 14) (fun o => seen_true))
  isplitr; · iexact He
  isplitl [HAw]; · iexact HAw
  isplitl [Hout]; · iexact Hout
  isplitl [Ho]; · iexact Ho
  iintro ⟨HAw, Hout, Ho⟩
  iapply (work_collect m K (b := true) (b' := false) rfl c 17 15 h15 (by omega) (by omega) i15 e15 _ (above_zero _) (D := seen c 15 14) (D' := seen c 16 14) (fun o => seen_true))
  isplitr; · iexact He
  isplitl [HAw]; · iexact HAw
  isplitl [Hout]; · iexact Hout
  isplitl [Ho]; · iexact Ho
  iintro ⟨HAw, Hout, Ho⟩
  iapply (work_collect m K (b := true) (b' := false) rfl c 17 16 h16 (by omega) (by omega) i16 e16 _ (above_zero _) (D := seen c 16 14) (D' := seen c 17 14) (fun o => seen_true))
  isplitr; · iexact He
  isplitl [HAw]; · iexact HAw
  isplitl [Hout]; · iexact Hout
  isplitl [Ho]; · iexact Ho
  iintro ⟨HAw, Hout, Ho⟩
  iapply (work_collect m K (b := false) (b' := true) rfl c 16 14 h14' (by omega) (by omega) j14 f14 _ (above_zero _) (D := seen c 17 14) (D' := seen c 17 15) (fun o => seen_false))
  isplitr; · iexact He
  isplitl [HBw]; · iexact HBw
  isplitl [Hout]; · iexact Hout
  isplitl [Ho]; · iexact Ho
  iintro ⟨HBw, Hout, Ho⟩
  iapply (work_collect m K (b := false) (b' := true) rfl c 16 15 h15' (by omega) (by omega) j15 f15 _ (above_zero _) (D := seen c 17 15) (D' := seen c 17 16) (fun o => seen_false))
  isplitr; · iexact He
  isplitl [HBw]; · iexact HBw
  isplitl [Hout]; · iexact Hout
  isplitl [Ho]; · iexact Ho
  iintro ⟨HBw, Hout, Ho⟩
  iapply (run_ret c)
  iapply Hk
  unfold fin1 slots spare
  isplitl [HA HAf HAf' HAp HAw]
  · isplitl [HA HAf HAf']
    · isplitl [HAf']; · iapply (free_at true c (show (15 + 1 + 2) % 3 = 0 % 3 by decide)); iexact HAf'
      isplitl [HA]; · iapply (free_at true c (show (15 + 1) % 3 = 1 % 3 by decide)); iexact HA
      iapply (free_at true c (show (15 + 2) % 3 = 2 % 3 by decide)); iexact HAf
    isplitl [HAp]; · iexact HAp
    iapply (hw true 17 17 (show 17 ≤ 17 by omega) rfl); iexact HAw
  isplitl [HB HBf Hov HBp HBw]
  · isplitl [HB HBf Hov]
    · isplitl [HB]; · iapply (free_at false c (show 15 % 3 = 0 % 3 by decide)); iexact HB
      isplitl [Hov]; · iapply hov; iexact Hov
      iapply (free_at false c (show (15 + 2) % 3 = 2 % 3 by decide)); iexact HBf
    isplitl [HBp]; · iexact HBp
    iapply (hw false 16 16 (show 16 ≤ 16 by omega) rfl); iexact HBw
  isplitl [Hx]; · iexact Hx
  isplitl [Hout]; · iapply (outS_mono m c (fun o _ => seen_all c o)); iexact Hout
  iexact Ho

/-! ## All of it -/

theorem out_start (c : Dev nD) (X : S8192x128.Idx → Elt F .f32) : owns (c : Thread nD τ) outM fullShare X ⊢ outS m c (fun _ => False) :=
  ownsSat_intro (c : Thread nD τ) outM fullShare (fun _ h => False.elim h)

/-- What a device needs in one direction before the body. -/
def ini1 (b : Bool) (c : Dev nD) : sProp 𝕄 :=
  iprop(slots b c ∗ grants b c 0 ∗ sends b c 0 ∗ posn b c 0 ∗ bigSep (Finset.Ico 1 (cnt b)) (fun k => todoP b c k))
/-- And for the handshake. -/
def iniB (c : Dev nD) : sProp 𝕄 :=
  iprop(dutyTok ER (barC (nxt false c)) 0 true ∗ dutyTok ER (barC (nxt true c)) 0 false ∗ atPos ER (barC c) 0 ∅ 0 ∗ cred (tallyAt (barC c) 0 2))

theorem work_start (b : Bool) (c : Dev nD) : bigSep (Finset.Ico 1 (cnt b)) (fun k => todoP b c k) ⊢ work (F := F) b c 1 1 := by
  unfold work
  rw [Finset.Ico_self, bigSep_empty, bigSep_empty]
  iintro H
  isplitl [H]; · iexact H
  isplitr <;> iempintro

set_option maxHeartbeats 4000000 in
theorem wp_steps {Q : PUnit → sProp 𝕄} (c : Dev nD) (q q' : PosShare TreeShare) :
    iprop(env m K ∗ iniB c ∗ ini1 true c ∗ ini1 false c ∗ owns (c : Thread nD τ) xIn q (xstg m c) ∗ owns (c : Thread nD τ) wIn q' (wstg m c)
        ∗ (∃ X, owns (c : Thread nD τ) xM fullShare X) ∗ (∃ X, owns (c : Thread nD τ) outM fullShare X) ∗ debt c (due c 0 0 1 1 + owesB c)
        ∗ ((fin1 true c ∗ fin1 false c ∗ home c ∗ semVal (barC c) 0 ∗ owns (c : Thread nD τ) xIn q (xstg m c) ∗ owns (c : Thread nD τ) wIn q' (wstg m c)
            ∗ xS m c ∗ outS m c (fun _ => True) ∗ debt c 0) -∗ Q ⟨⟩))
      ⊢ run c (steps c) Q := by
  have hO : Above 1 (due c 0 0 1 1) := above_due c (by omega) (by omega) (by omega) (by omega)
  have hov (k : ℕ) (h : k ≠ 14) : (over c k : sProp 𝕄) ⊢ emp := by unfold over; rw [if_neg h]
  unfold iniB ini1 slots steps
  iintro ⟨#He, ⟨HtA, HtB, Hat, Hcr⟩, ⟨⟨HA0, HA1, HA2⟩, HAg, HAs, HAp, HAw⟩, ⟨⟨HB0, HB1, HB2⟩, HBg, HBs, HBp, HBw⟩, Hxi, Hwi, Hx, ⟨%X, Hout⟩, Ho, Hk⟩
  iapply (wp_handshake m K c (to1 c) (to2 c) _ hO)
  isplitr; · iexact He
  isplitl [HtA]; · iexact HtA
  isplitl [HtB]; · iexact HtB
  isplitl [HA1 HA2]
  · isplitl [HA1]; · iexact HA1
    iexact HA2
  isplitl [HB1 HB2]
  · isplitl [HB1]; · iexact HB1
    iexact HB2
  isplitl [Hat]; · iexact Hat
  isplitl [Hcr]; · iexact Hcr
  isplitl [Ho]; · iexact Ho
  iintro ⟨HAr, HBr, Hz, Ho⟩
  iapply (wp_stage m c _ q q')
  isplitl [Hxi]; · iexact Hxi
  isplitl [Hwi]; · iexact Hwi
  isplitl [Hx]; · iexact Hx
  isplitl [HA0]; · iexact HA0
  isplitl [HB0]; · iexact HB0
  iintro ⟨Hxi, Hwi, Hx, HA, HB⟩
  iapply (wp_first m K c (to3 c) (to4 c) _ (k0_off1_eq c))
  isplitr; · iexact He
  unfold dir0 core
  isplitl [HA HAg HAr HAs HAp HAw]
  · isplitl [HA HAg]
    · isplitl [HA]; · iexact HA
      rw [org_zero]; iexact HAg
    isplitl [HAr]; · iexact HAr
    isplitl [HAs]; · iexact HAs
    isplitl [HAp]; · iexact HAp
    iapply (work_start true c); iexact HAw
  isplitl [HB HBg HBr HBs HBp HBw]
  · isplitl [HB HBg]
    · isplitl [HB]; · iexact HB
      rw [org_zero]; iexact HBg
    isplitl [HBr]; · iexact HBr
    isplitl [HBs]; · iexact HBs
    isplitl [HBp]; · iexact HBp
    iapply (work_start false c); iexact HBw
  isplitl [Hx]; · iexact Hx
  isplitl [Hout]; · iapply (out_start m c X); iexact Hout
  isplitl [Ho]; · iexact Ho
  iintro ⟨Hst, Hhome⟩
  iapply (wp_early m K c 1 _ (by decide) (to5 c) (to6 c) (to7 c) (to8 c))
  isplitr; · iexact He
  isplitl [Hst]; · iexact Hst
  iintro Hst
  iapply (wp_early m K c 2 _ (by decide) (to9 c) (to10 c) (to11 c) (to12 c))
  isplitr; · iexact He
  isplitl [Hst]; · iexact Hst
  iintro Hst
  iapply (wp_mid m K c 1 _ (by decide) (to13 c) (to14 c) (to15 c) (to16 c) _ _ (rowsR1 c) (rowsL1 c))
  isplitr; · iexact He
  isplitl [Hst]; · iexact Hst
  iintro ⟨Hst, -⟩
  iapply (wp_mid m K c 2 _ (by decide) (to17 c) (to18 c) (to19 c) (to20 c) _ _ (rowsR2 c) (rowsL2 c))
  isplitr; · iexact He
  isplitl [Hst]; · iexact Hst
  iintro ⟨Hst, -⟩
  iapply (wp_mid m K c 3 _ (by decide) (to21 c) (to22 c) (to23 c) (to24 c) _ _ (rowsR3 c) (rowsL3 c))
  isplitr; · iexact He
  isplitl [Hst]; · iexact Hst
  iintro ⟨Hst, -⟩
  iapply (wp_mid m K c 4 _ (by decide) (to25 c) (to26 c) (to27 c) (to28 c) _ _ (rowsR4 c) (rowsL4 c))
  isplitr; · iexact He
  isplitl [Hst]; · iexact Hst
  iintro ⟨Hst, -⟩
  iapply (wp_mid m K c 5 _ (by decide) (to29 c) (to30 c) (to31 c) (to32 c) _ _ (rowsR5 c) (rowsL5 c))
  isplitr; · iexact He
  isplitl [Hst]; · iexact Hst
  iintro ⟨Hst, -⟩
  iapply (wp_mid m K c 6 _ (by decide) (to33 c) (to34 c) (to35 c) (to36 c) _ _ (rowsR6 c) (rowsL6 c))
  isplitr; · iexact He
  isplitl [Hst]; · iexact Hst
  iintro ⟨Hst, -⟩
  iapply (wp_mid m K c 7 _ (by decide) (to37 c) (to38 c) (to39 c) (to40 c) _ _ (rowsR7 c) (rowsL7 c))
  isplitr; · iexact He
  isplitl [Hst]; · iexact Hst
  iintro ⟨Hst, -⟩
  iapply (wp_mid m K c 8 _ (by decide) (to41 c) (to42 c) (to43 c) (to44 c) _ _ (rowsR8 c) (rowsL8 c))
  isplitr; · iexact He
  isplitl [Hst]; · iexact Hst
  iintro ⟨Hst, -⟩
  iapply (wp_mid m K c 9 _ (by decide) (to45 c) (to46 c) (to47 c) (to48 c) _ _ (rowsR9 c) (rowsL9 c))
  isplitr; · iexact He
  isplitl [Hst]; · iexact Hst
  iintro ⟨Hst, -⟩
  iapply (wp_mid m K c 10 _ (by decide) (to49 c) (to50 c) (to51 c) (to52 c) _ _ (rowsR10 c) (rowsL10 c))
  isplitr; · iexact He
  isplitl [Hst]; · iexact Hst
  iintro ⟨Hst, -⟩
  iapply (wp_mid m K c 11 _ (by decide) (to53 c) (to54 c) (to55 c) (to56 c) _ _ (rowsR11 c) (rowsL11 c))
  isplitr; · iexact He
  isplitl [Hst]; · iexact Hst
  iintro ⟨Hst, -⟩
  iapply (wp_mid m K c 12 _ (by decide) (to57 c) (to58 c) (to59 c) (to60 c) _ _ (rowsR12 c) (rowsL12 c))
  isplitr; · iexact He
  isplitl [Hst]; · iexact Hst
  iintro ⟨Hst, Hov⟩
  iapply (wp_last m K c (to61 c) (to62 c) (to63 c) (to64 c) _ _ _ _ _ _ _
    (rowsR13 c) (rowsR14 c) (rowsR15 c) (rowsR16 c) (rowsL13 c) (rowsL14 c) (rowsL15 c))
  isplitr; · iexact He
  isplitl [Hst]; · iexact Hst
  isplitl [Hov]; · iexact Hov
  iintro ⟨HA, HB, Hx, Hout, Ho⟩
  iapply Hk
  isplitl [HA]; · iexact HA
  isplitl [HB]; · iexact HB
  isplitl [Hhome]; · iexact Hhome
  isplitl [Hz]; · iexact Hz
  isplitl [Hxi]; · iexact Hxi
  isplitl [Hwi]; · iexact Hwi
  isplitl [Hx]; · iexact Hx
  isplitl [Hout]; · iexact Hout
  iexact Ho

end Cert.KernelIdeal.Ring

end
-- ==== Proof.KernelIdeal.Deal.lean ====
/-
The cells sorted by direction and use, and what the launch mints for them dealt to the devices that use it: the rights
to raise a neighbour's cell, and the credits that come with what the others owe.
-/
module

public import proofs.«01_k».proof.Proof.KernelIdeal.Body
public import Idealize.SL.BI.BigOpNat

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

/-! ## Runs over numbers -/

/-- What `A` says of `k`, if `k` is below `n`. -/
def below (n : ℕ) (A : (k : ℕ) → k < n → sProp 𝕄) (k : ℕ) : sProp 𝕄 := if h : k < n then A k h else iprop(emp)

omit [FloatOps F] in
theorem below_pos {n : ℕ} (A : (k : ℕ) → k < n → sProp 𝕄) {k : ℕ} (h : k < n) : below n A k = A k h := dif_pos h

omit [FloatOps F] in
theorem bigSep_fin {n : ℕ} (Ψ : Fin n → sProp 𝕄) : bigSep Finset.univ Ψ = bigSep (Finset.Ico 0 n) (below n fun k h => Ψ ⟨k, h⟩) := by
  have e : Finset.Ico 0 n = (Finset.univ : Finset (Fin n)).map Fin.valEmbedding := by
    ext k
    simp only [Finset.mem_Ico, Finset.mem_map, Finset.mem_univ, true_and, Fin.valEmbedding_apply]
    exact ⟨fun h => ⟨⟨k, h.2⟩, rfl⟩, fun ⟨i, hi⟩ => hi ▸ ⟨Nat.zero_le _, i.isLt⟩⟩
  rw [e, bigSep_map]
  exact bigSep_congr fun i _ => (below_pos (fun k h => Ψ ⟨k, h⟩) i.isLt).symm

omit [FloatOps F] in
theorem bigSep_cut {a b c : ℕ} (h : a ≤ b) (h' : b ≤ c) (A : ℕ → sProp 𝕄) :
    bigSep (Finset.Ico a c) A = iprop(bigSep (Finset.Ico a b) A ∗ bigSep (Finset.Ico b c) A) := by
  rw [← Finset.Ico_union_Ico_eq_Ico h h', bigSep_union (Finset.Ico_disjoint_Ico_consecutive a b c)]
  rfl

omit [FloatOps F] in
theorem bigSep_shift (a n : ℕ) (A B : ℕ → sProp 𝕄) (h : ∀ k, k < n → A (a + k) = B k) : bigSep (Finset.Ico a (a + n)) A = bigSep (Finset.Ico 0 n) B := by
  have e : Finset.Ico a (a + n) = (Finset.Ico 0 n).map (addLeftEmbedding a) := by
    ext k
    simp only [Finset.mem_Ico, Finset.mem_map, addLeftEmbedding_apply]
    exact ⟨fun hk => ⟨k - a, by omega, by omega⟩, fun ⟨i, hi, e⟩ => by omega⟩
  rw [e, bigSep_map]
  exact bigSep_congr fun i hi => h i (Finset.mem_Ico.mp hi).2

omit [FloatOps F] in
theorem bigSep_three (A : ℕ → sProp 𝕄) : bigSep (Finset.Ico 0 3) A = iprop(A 0 ∗ A 1 ∗ A 2) := by
  rw [bigSep_Ico_succ_bot (by decide), bigSep_Ico_succ_bot (by decide), bigSep_Ico_one]

omit [FloatOps F] in
/-- Two runs one inside the other, the other way round. -/
theorem bigSep_swap {I : Type} [DecidableEq I] (S : Finset I) (T : Finset ℕ) (A : I → ℕ → sProp 𝕄) :
    bigSep S (fun i => bigSep T (A i)) = bigSep T fun k => bigSep S fun i => A i k := by
  induction T using Finset.induction_on with
  | empty => simp only [bigSep_empty]; exact BI.bigSep_emp_const S
  | insert k T hk ih =>
    rw [bigSep_insert hk, ← ih, bigSep_congr (s := S) (fun i _ => bigSep_insert (Φ := A i) hk)]
    exact bigSep_sep' S _ _

omit [FloatOps F] in
/-- Three runs that take turns. -/
theorem bigSep_turns (A₀ A₁ A₂ B : ℕ → sProp 𝕄) (h₀ : ∀ r, A₀ r = B (3 * r)) (h₁ : ∀ r, A₁ r = B (3 * r + 1)) (h₂ : ∀ r, A₂ r = B (3 * r + 2)) (n : ℕ) :
    iprop(bigSep (Finset.Ico 0 n) A₀ ∗ bigSep (Finset.Ico 0 n) A₁ ∗ bigSep (Finset.Ico 0 n) A₂) ⊢ bigSep (Finset.Ico 0 (3 * n)) B := by
  rw [← bigSep_sep', ← bigSep_sep']
  induction n with
  | zero => exact .rfl
  | succ n ih =>
    rw [bigSep_Ico_succ_top (Nat.zero_le _), show 3 * (n + 1) = 3 * n + 1 + 1 + 1 by omega, bigSep_Ico_succ_top (Nat.zero_le _),
      bigSep_Ico_succ_top (Nat.zero_le _), bigSep_Ico_succ_top (Nat.zero_le _), h₀, h₁, h₂]
    iintro ⟨⟨H0, H1, H2⟩, H⟩
    isplitl [H2]; · iexact H2
    isplitl [H1]; · iexact H1
    isplitl [H0]; · iexact H0
    iapply ih; iexact H

/-! ## The cells by direction -/

/-- What `Φ` says of the cells of a direction: those of the slots, and those of the products. -/
def dirCells (b : Bool) (Φ : SemLoc sig → sProp 𝕄) : sProp 𝕄 :=
  iprop((Φ (sndL b (mod3 0)) ∗ Φ (sndL b (mod3 1)) ∗ Φ (sndL b (mod3 2))) ∗ (Φ (rcvL b (mod3 1)) ∗ Φ (rcvL b (mod3 2)) ∗ Φ (rcvL b (mod3 3)))
    ∗ bigSep (Finset.Ico 0 (cnt b)) (below (cnt b) fun _ h => Φ (psdL b h)) ∗ bigSep (Finset.Ico 0 (cnt b)) (below (cnt b) fun _ h => Φ (prcL b h)))

theorem csem_snd_true : ∀ k : Fin 3, csem ⟨0 + k.val, by omega⟩ = sndL true k.isLt := by decide
theorem csem_rcv_true : ∀ k : Fin 3, csem ⟨3 + k.val, by omega⟩ = rcvL true k.isLt := by decide
theorem csem_snd_false : ∀ k : Fin 3, csem ⟨6 + k.val, by omega⟩ = sndL false k.isLt := by decide
theorem csem_rcv_false : ∀ k : Fin 3, csem ⟨9 + k.val, by omega⟩ = rcvL false k.isLt := by decide
theorem csem_psd_true : ∀ k : Fin 17, csem ⟨12 + k.val, by omega⟩ = psdL true k.isLt := by decide
theorem csem_prc_true : ∀ k : Fin 17, csem ⟨29 + k.val, by omega⟩ = prcL true k.isLt := by decide
theorem csem_psd_false : ∀ k : Fin 16, csem ⟨46 + k.val, by omega⟩ = psdL false k.isLt := by decide
theorem csem_prc_false : ∀ k : Fin 16, csem ⟨62 + k.val, by omega⟩ = prcL false k.isLt := by decide

omit [FloatOps F] in
theorem cells_part (Φ : SemLoc sig → sProp 𝕄) (a n : ℕ) (hn : a + n ≤ 79) (f : (k : ℕ) → k < n → SemLoc sig) (h : ∀ k : Fin n, csem ⟨a + k.val, by omega⟩ = f k.val k.isLt) :
    bigSep (Finset.Ico a (a + n)) (below 79 fun k h => Φ (csem ⟨k, h⟩)) = bigSep (Finset.Ico 0 n) (below n fun k h => Φ (f k h)) :=
  bigSep_shift a n _ _ fun k hk => by rw [below_pos _ (by omega), below_pos _ hk]; exact congrArg Φ (h ⟨k, hk⟩)

omit [FloatOps F] in
theorem below_three (A : (k : ℕ) → k < 3 → sProp 𝕄) : bigSep (Finset.Ico 0 3) (below 3 A) = iprop(A 0 (by decide) ∗ A 1 (by decide) ∗ A 2 (by decide)) := by
  rw [bigSep_three, below_pos _ (by decide), below_pos _ (by decide), below_pos _ (by decide)]

omit [FloatOps F] in
/-- All cells of a device are those of the two directions and the barrier's. -/
theorem cells_split (Φ : SemLoc sig → sProp 𝕄) :
    bigSep Finset.univ (fun k : Fin 79 => Φ (csem k)) ⊣⊢ iprop(dirCells true Φ ∗ dirCells false Φ ∗ Φ (.reg barS)) := by
  have e : bigSep Finset.univ (fun k : Fin 79 => Φ (csem k))
      = iprop((Φ (sndL true (by decide : 0 < 3)) ∗ Φ (sndL true (by decide : 1 < 3)) ∗ Φ (sndL true (by decide : 2 < 3)))
        ∗ (Φ (rcvL true (by decide : 0 < 3)) ∗ Φ (rcvL true (by decide : 1 < 3)) ∗ Φ (rcvL true (by decide : 2 < 3)))
        ∗ (Φ (sndL false (by decide : 0 < 3)) ∗ Φ (sndL false (by decide : 1 < 3)) ∗ Φ (sndL false (by decide : 2 < 3)))
        ∗ (Φ (rcvL false (by decide : 0 < 3)) ∗ Φ (rcvL false (by decide : 1 < 3)) ∗ Φ (rcvL false (by decide : 2 < 3)))
        ∗ bigSep (Finset.Ico 0 (cnt true)) (below (cnt true) fun _ h => Φ (psdL true h)) ∗ bigSep (Finset.Ico 0 (cnt true)) (below (cnt true) fun _ h => Φ (prcL true h))
        ∗ bigSep (Finset.Ico 0 (cnt false)) (below (cnt false) fun _ h => Φ (psdL false h)) ∗ bigSep (Finset.Ico 0 (cnt false)) (below (cnt false) fun _ h => Φ (prcL false h))
        ∗ Φ (.reg barS)) := by
    rw [bigSep_fin, bigSep_cut (b := 0 + 3) (by decide) (by decide), bigSep_cut (a := 0 + 3) (b := 3 + 3) (by decide) (by decide),
      bigSep_cut (a := 3 + 3) (b := 6 + 3) (by decide) (by decide), bigSep_cut (a := 6 + 3) (b := 9 + 3) (by decide) (by decide),
      bigSep_cut (a := 9 + 3) (b := 12 + 17) (by decide) (by decide), bigSep_cut (a := 12 + 17) (b := 29 + 17) (by decide) (by decide),
      bigSep_cut (a := 29 + 17) (b := 46 + 16) (by decide) (by decide), bigSep_cut (a := 46 + 16) (b := 62 + 16) (by decide) (by decide)]
    rw [cells_part Φ 0 3 (by decide) _ csem_snd_true, show Finset.Ico (0 + 3) (3 + 3) = Finset.Ico 3 (3 + 3) from rfl, cells_part Φ 3 3 (by decide) _ csem_rcv_true,
      show Finset.Ico (3 + 3) (6 + 3) = Finset.Ico 6 (6 + 3) from rfl, cells_part Φ 6 3 (by decide) _ csem_snd_false,
      show Finset.Ico (6 + 3) (9 + 3) = Finset.Ico 9 (9 + 3) from rfl, cells_part Φ 9 3 (by decide) _ csem_rcv_false,
      show Finset.Ico (9 + 3) (12 + 17) = Finset.Ico 12 (12 + 17) from rfl, cells_part Φ 12 17 (by decide) _ csem_psd_true,
      show Finset.Ico (12 + 17) (29 + 17) = Finset.Ico 29 (29 + 17) from rfl, cells_part Φ 29 17 (by decide) _ csem_prc_true,
      show Finset.Ico (29 + 17) (46 + 16) = Finset.Ico 46 (46 + 16) from rfl, cells_part Φ 46 16 (by decide) _ csem_psd_false,
      show Finset.Ico (46 + 16) (62 + 16) = Finset.Ico 62 (62 + 16) from rfl, cells_part Φ 62 16 (by decide) _ csem_prc_false,
      show Finset.Ico (62 + 16) 79 = Finset.Ico 78 (78 + 1) from rfl, bigSep_Ico_one, below_pos _ (by decide),
      below_three, below_three, below_three, below_three]
    rfl
  rw [e]
  unfold dirCells
  constructor
  · iintro ⟨⟨A0, A1, A2⟩, ⟨B0, B1, B2⟩, ⟨C0, C1, C2⟩, ⟨D0, D1, D2⟩, P, R, P', R', H⟩
    isplitl [A0 A1 A2 B0 B1 B2 P R]
    · isplitl [A0 A1 A2]
      · isplitl [A0]; · iexact A0
        isplitl [A1]; · iexact A1
        iexact A2
      isplitl [B0 B1 B2]
      · isplitl [B1]; · iexact B1
        isplitl [B2]; · iexact B2
        iexact B0
      isplitl [P]; · iexact P
      iexact R
    isplitl [C0 C1 C2 D0 D1 D2 P' R']
    · isplitl [C0 C1 C2]
      · isplitl [C0]; · iexact C0
        isplitl [C1]; · iexact C1
        iexact C2
      isplitl [D0 D1 D2]
      · isplitl [D1]; · iexact D1
        isplitl [D2]; · iexact D2
        iexact D0
      isplitl [P']; · iexact P'
      iexact R'
    iexact H
  · iintro ⟨⟨⟨A0, A1, A2⟩, ⟨B1, B2, B0⟩, P, R⟩, ⟨⟨C0, C1, C2⟩, ⟨D1, D2, D0⟩, P', R'⟩, H⟩
    isplitl [A0 A1 A2]
    · isplitl [A0]; · iexact A0
      isplitl [A1]; · iexact A1
      iexact A2
    isplitl [B0 B1 B2]
    · isplitl [B0]; · iexact B0
      isplitl [B1]; · iexact B1
      iexact B2
    isplitl [C0 C1 C2]
    · isplitl [C0]; · iexact C0
      isplitl [C1]; · iexact C1
      iexact C2
    isplitl [D0 D1 D2]
    · isplitl [D0]; · iexact D0
      isplitl [D1]; · iexact D1
      iexact D2
    isplitl [P]; · iexact P
    isplitl [R]; · iexact R
    isplitl [P']; · iexact P'
    isplitl [R']; · iexact R'
    iexact H

/-! ## The rights to raise the cells -/

/-- The rights minted for a cell: both duties of six rounds, -/
def tks (g : GSem nD τ sig) : sProp 𝕄 := bigSep Finset.univ fun p : Fin 6 × Bool => dutyTok ER g p.1.val p.2

omit [FloatOps F] in
/-- the one duty of every round, -/
theorem tks_rounds (g : GSem nD τ sig) : (tks g : sProp 𝕄) ⊢ bigSep (Finset.Ico 0 6) fun r => dutyTok ER g r true := by
  unfold tks
  rw [bigSep_univ_prod, bigSep_fin]
  exact bigSep_mono fun r hr => by rw [below_pos _ (Finset.mem_Ico.mp hr).2]; exact BI.bigSep_elim (Finset.mem_univ true)
omit [FloatOps F] in
theorem tks_first (g : GSem nD τ sig) : (tks g : sProp 𝕄) ⊢ dutyTok ER g 0 true :=
  (tks_rounds g).trans (BI.bigSep_elim (Φ := fun r => (dutyTok ER g r true : sProp 𝕄)) (Finset.mem_Ico.mpr ⟨le_rfl, by decide⟩))
omit [FloatOps F] in
/-- and the two of the first round. -/
theorem tks_both (g : GSem nD τ sig) : (tks g : sProp 𝕄) ⊢ iprop(dutyTok ER g 0 true ∗ dutyTok ER g 0 false) := by
  unfold tks
  rw [bigSep_univ_at _ ((0 : Fin 6), true)]
  refine sep_mono_right ?_
  exact BI.bigSep_elim (Φ := fun p : Fin 6 × Bool => (dutyTok ER g p.1.val p.2 : sProp 𝕄)) (i := ((0 : Fin 6), false)) (by decide)

/-- The rights at a device's own cells of a direction, -/
def toksAt (b : Bool) (c : Dev nD) : sProp 𝕄 :=
  iprop(bigSep (Finset.Ico 0 (last b + 1)) (fun s => dutyTok ER (sndC b c s) (s / 3) true)
    ∗ bigSep (Finset.Ico 0 (last b + 1)) (fun s => dutyTok ER (rcvC b c s) (s / 3) true)
    ∗ bigSep (Finset.Ico 1 (cnt b)) (below (cnt b) fun _ h => dutyTok ER (psdC b c h) 0 true)
    ∗ bigSep (Finset.Ico 1 (cnt b)) (below (cnt b) fun _ h => dutyTok ER (prcC b c h) 0 true))
/-- and those it uses. -/
def toksOf (b : Bool) (c : Dev nD) : sProp 𝕄 :=
  iprop(bigSep (Finset.Ico 0 (last b + 1)) (fun s => dutyTok ER (sndC b c s) (s / 3) true)
    ∗ bigSep (Finset.Ico 0 (last b + 1)) (fun s => dutyTok ER (rcvC b (nxt b c) s) (s / 3) true)
    ∗ bigSep (Finset.Ico 1 (cnt b)) (below (cnt b) fun _ h => dutyTok ER (psdC b c h) 0 true)
    ∗ bigSep (Finset.Ico 1 (cnt b)) (fun k => below (cnt b) (fun _ h => dutyTok ER (prcC b (org b c k) h) 0 true) k))

omit [FloatOps F] in
theorem turn_snd (b : Bool) (c : Dev nD) (j r : ℕ) : (dutyTok ER (sndC b c j) r true : sProp 𝕄) = dutyTok ER (sndC b c (3 * r + j % 3)) ((3 * r + j % 3) / 3) true := by
  have e : sndC b c (3 * r + j % 3) = sndC b c j := by
    unfold sndC sndL; rw [semAt_congr _ (mod3 (3 * r + j % 3)) (mod3 j) (by omega)]
  rw [e, show (3 * r + j % 3) / 3 = r by omega]
omit [FloatOps F] in
theorem turn_rcv (b : Bool) (c : Dev nD) (j r : ℕ) : (dutyTok ER (rcvC b c j) r true : sProp 𝕄) = dutyTok ER (rcvC b c (3 * r + j % 3)) ((3 * r + j % 3) / 3) true := by
  have e : rcvC b c (3 * r + j % 3) = rcvC b c j := by
    unfold rcvC rcvL; rw [semAt_congr _ (mod3 (3 * r + j % 3 + 1)) (mod3 (j + 1)) (by omega)]
  rw [e, show (3 * r + j % 3) / 3 = r by omega]

omit [FloatOps F] in
theorem toks_dir (b : Bool) (c : Dev nD) : (dirCells b (fun sm => tks ((c : Thread nD τ), sm)) : sProp 𝕄) ⊢ toksAt b c := by
  have hl : last b + 1 ≤ 3 * 6 := by have := last_le b; omega
  have hS : iprop(tks (sndC b c 0) ∗ tks (sndC b c 1) ∗ tks (sndC b c 2)) ⊢ (bigSep (Finset.Ico 0 (last b + 1)) (fun s => dutyTok ER (sndC b c s) (s / 3) true) : sProp 𝕄) :=
    ((BIClass.sep_mono (tks_rounds _) (BIClass.sep_mono (tks_rounds _) (tks_rounds _))).trans
      (bigSep_turns _ _ _ (fun s => dutyTok ER (sndC b c s) (s / 3) true) (turn_snd b c 0) (turn_snd b c 1) (turn_snd b c 2) 6)).trans
      (bigSep_subset (Finset.Ico_subset_Ico_right hl))
  have hR : iprop(tks (rcvC b c 0) ∗ tks (rcvC b c 1) ∗ tks (rcvC b c 2)) ⊢ (bigSep (Finset.Ico 0 (last b + 1)) (fun s => dutyTok ER (rcvC b c s) (s / 3) true) : sProp 𝕄) :=
    ((BIClass.sep_mono (tks_rounds _) (BIClass.sep_mono (tks_rounds _) (tks_rounds _))).trans
      (bigSep_turns _ _ _ (fun s => dutyTok ER (rcvC b c s) (s / 3) true) (turn_rcv b c 0) (turn_rcv b c 1) (turn_rcv b c 2) 6)).trans
      (bigSep_subset (Finset.Ico_subset_Ico_right hl))
  have hB (f : (k : ℕ) → k < cnt b → SemLoc sig) : bigSep (Finset.Ico 0 (cnt b)) (below (cnt b) fun k h => tks ((c : Thread nD τ), f k h))
      ⊢ (bigSep (Finset.Ico 1 (cnt b)) (below (cnt b) fun k h => dutyTok ER ((c : Thread nD τ), f k h) 0 true) : sProp 𝕄) :=
    (bigSep_mono fun k hk => by rw [below_pos _ (Finset.mem_Ico.mp hk).2, below_pos _ (Finset.mem_Ico.mp hk).2]; exact tks_first _).trans
      (bigSep_subset (Finset.Ico_subset_Ico_left (by decide)))
  unfold dirCells toksAt
  exact BIClass.sep_mono hS (BIClass.sep_mono hR (BIClass.sep_mono (hB _) (hB _)))

/-! ## Around the ring -/

/-- Stepping to the next device is one to one, -/
def stepE (b : Bool) : Dev nD ≃ Dev nD := ⟨nxt b, nxt (!b), nxt_nxt b, nxt_nxt' b⟩
/-- and so is going to where a product belongs. -/
def orgE (b : Bool) {k : ℕ} (h : k ≤ 32) : Dev nD ≃ Dev nD :=
  ⟨fun c => org b c k, fun c => org (!b) c k, fun c => org_org b c h, fun c => org_org' b c h⟩

omit [FloatOps F] in
theorem toks_around (b : Bool) : bigSep Finset.univ (fun c => (toksAt b c : sProp 𝕄)) ⊢ bigSep Finset.univ (fun c => toksOf b c) := by
  have hc : cnt b ≤ 32 := by have := last_le b; have := cnt_eq b; omega
  have hR : bigSep Finset.univ (fun c : Dev nD => (bigSep (Finset.Ico 0 (last b + 1)) (fun s => dutyTok ER (rcvC b c s) (s / 3) true) : sProp 𝕄))
      = bigSep Finset.univ (fun c : Dev nD => bigSep (Finset.Ico 0 (last b + 1)) (fun s => dutyTok ER (rcvC b (nxt b c) s) (s / 3) true)) :=
    bigSep_univ_equiv (stepE b) _
  have hP : bigSep Finset.univ (fun c : Dev nD => (bigSep (Finset.Ico 1 (cnt b)) (below (cnt b) fun _ h => dutyTok ER (prcC b c h) 0 true) : sProp 𝕄))
      = bigSep Finset.univ (fun c : Dev nD => bigSep (Finset.Ico 1 (cnt b)) (fun k => below (cnt b) (fun _ h => dutyTok ER (prcC b (org b c k) h) 0 true) k)) := by
    rw [bigSep_swap, bigSep_swap]
    exact bigSep_congr fun k hk => bigSep_univ_equiv (orgE b (by have := (Finset.mem_Ico.mp hk).2; omega : k ≤ 32)) _
  unfold toksAt toksOf
  rw [bigSep_sep', bigSep_sep', bigSep_sep', bigSep_sep', bigSep_sep', bigSep_sep', hR, hP]

/-- The rights at a device's own barrier, and those it uses. -/
def barAt (c : Dev nD) : sProp 𝕄 := iprop(dutyTok ER (barC c) 0 true ∗ dutyTok ER (barC c) 0 false)
def barOf (c : Dev nD) : sProp 𝕄 := iprop(dutyTok ER (barC (nxt false c)) 0 true ∗ dutyTok ER (barC (nxt true c)) 0 false)

omit [FloatOps F] in
theorem bar_around : bigSep Finset.univ (fun c => (barAt c : sProp 𝕄)) ⊢ bigSep Finset.univ (fun c => barOf c) := by
  unfold barAt barOf
  rw [bigSep_sep', bigSep_sep', bigSep_univ_equiv (stepE false) (fun c : Dev nD => (dutyTok ER (barC c) 0 true : sProp 𝕄)),
    bigSep_univ_equiv (stepE true) (fun c : Dev nD => (dutyTok ER (barC c) 0 false : sProp 𝕄))]
  exact .rfl

/-! ## The credits -/

/-- What each device owes at the launch. -/
def O₀ (c : Dev nD) : CellTallies nD τ sig ℕ := due c 0 0 1 1 + owesB c

/-- What a device is credited with in a direction. -/
def credsOf (b : Bool) (c : Dev nD) : sProp 𝕄 :=
  iprop(bigSep (Finset.Ico 0 (last b + 1)) (fun s => cred (tallyAt (rcvC b c s) s (amtA b)))
    ∗ bigSep (Finset.Ico 1 (cnt b)) (fun k => below (cnt b) (fun _ h => cred (tallyAt (prcC b c h) k (amtP b))) k))

omit [FloatOps F] in
theorem creds_a (b : Bool) (c : Dev nD) :
    (Pipeline.launchCred (fun d => dueA b d 0) c : sProp 𝕄) ⊢ bigSep (Finset.Ico 0 (last b + 1)) fun s => cred (tallyAt (rcvC b c s) s (amtA b)) := by
  unfold dueA
  rw [Pipeline.launchCred_sum (Finset.Ico 0 (last b + 1)) (fun s d => owesA b d s) c]
  exact bigSep_mono fun s _ => Pipeline.launchCred_tallyAt (rcvL b (mod3 (s + 1))) (nxt b) (nxt (!b)) (nxt_nxt' b) (nxt_nxt b) s (amtA b) c
omit [FloatOps F] in
theorem creds_p (b : Bool) (c : Dev nD) :
    (Pipeline.launchCred (fun d => dueP b d 1) c : sProp 𝕄)
      ⊢ bigSep (Finset.Ico 1 (cnt b)) (fun k => below (cnt b) (fun _ h => cred (tallyAt (prcC b c h) k (amtP b))) k) := by
  have hc : cnt b ≤ 32 := by have := last_le b; have := cnt_eq b; omega
  unfold dueP
  rw [Pipeline.launchCred_sum (Finset.Ico 1 (cnt b)) (fun s d => owesP b d s) c]
  refine bigSep_mono fun k hk => ?_
  have hk' := (Finset.mem_Ico.mp hk).2
  rw [below_pos _ hk', show (fun d => owesP b d k) = fun d => tallyAt (prcC b (org b d k) hk') k (amtP b) from funext fun d => dif_pos hk']
  exact Pipeline.launchCred_tallyAt (prcL b hk') (fun d => org b d k) (fun d => org (!b) d k) (fun d => org_org' b d (by omega)) (fun d => org_org b d (by omega)) k (amtP b) c
omit [FloatOps F] in
theorem creds_b (c : Dev nD) : (Pipeline.launchCred (fun d => owesB d) c : sProp 𝕄) ⊢ cred (tallyAt (barC c) 0 2) := by
  unfold owesB
  rw [Pipeline.launchCred_add (fun d => tallyAt (barC (nxt true d)) 0 1) (fun d => tallyAt (barC (nxt false d)) 0 1) c,
    show (2 : ℕ) = 1 + 1 from rfl, ← tallyAt_add]
  refine (BIClass.sep_mono (Pipeline.launchCred_tallyAt (.reg barS) (nxt true) (nxt false) (nxt_nxt' true) (nxt_nxt true) 0 1 c)
    (Pipeline.launchCred_tallyAt (.reg barS) (nxt false) (nxt true) (nxt_nxt' false) (nxt_nxt false) 0 1 c)).trans ?_
  exact (cred_add _ _).2

omit [FloatOps F] in
theorem creds (c : Dev nD) : (Pipeline.launchCred O₀ c : sProp 𝕄) ⊢ iprop(credsOf true c ∗ credsOf false c ∗ cred (tallyAt (barC c) 0 2)) := by
  have e : (O₀ : Dev nD → CellTallies nD τ sig ℕ) = fun d => (((dueA true d 0 + dueA false d 0) + dueP true d 1) + dueP false d 1) + owesB d := rfl
  rw [e, Pipeline.launchCred_add (fun d => ((dueA true d 0 + dueA false d 0) + dueP true d 1) + dueP false d 1) (fun d => owesB d) c,
    Pipeline.launchCred_add (fun d => (dueA true d 0 + dueA false d 0) + dueP true d 1) (fun d => dueP false d 1) c,
    Pipeline.launchCred_add (fun d => dueA true d 0 + dueA false d 0) (fun d => dueP true d 1) c,
    Pipeline.launchCred_add (fun d => dueA true d 0) (fun d => dueA false d 0) c]
  unfold credsOf
  iintro ⟨⟨⟨⟨H0, H1⟩, H2⟩, H3⟩, H4⟩
  isplitl [H0 H2]
  · isplitl [H0]
    · iapply (creds_a true c); iexact H0
    iapply (creds_p true c); iexact H2
  isplitl [H1 H3]
  · isplitl [H1]
    · iapply (creds_a false c); iexact H1
    iapply (creds_p false c); iexact H3
  iapply (creds_b c); iexact H4

end Cert.KernelIdeal.Ring

end
-- ==== Proof.KernelIdeal.Start.lean ====
/-
A device's working buffers cut into their slots and put together again, what its body starts from made of what the launch deals,
and its cells closed once the body is through.
-/
module

public import proofs.«01_k».proof.Proof.KernelIdeal.Deal

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (K : Dev nD × Fin 79 → ℕ)

omit [FloatOps F] in
theorem cells_of (Φ : GSem nD τ sig → sProp 𝕄) (c : Dev nD) : bigSep Finset.univ (fun k : Fin 79 => Φ (kcell (c, k)))
    ⊣⊢ iprop(dirCells true (fun sm => Φ ((c : Thread nD τ), sm)) ∗ dirCells false (fun sm => Φ ((c : Thread nD τ), sm)) ∗ Φ (barC c)) :=
  cells_split fun sm => Φ ((c : Thread nD τ), sm)

/-! ## Stacks and their slots -/

theorem slab_disjoint {n R : ℕ} (k k' : Fin n) (h : k ≠ k') : Disjoint (slabR R k.isLt).set (slabR R k'.isLt).set := by
  rw [Finset.disjoint_left]
  intro i hi hi'
  have h₁ := Rect.mem_set_unit.mp hi (0 : Fin 3)
  have h₂ := Rect.mem_set_unit.mp hi' (0 : Fin 3)
  have h₁ : k.val ≤ (i (0 : Fin 3)).val ∧ (i (0 : Fin 3)).val < k.val + 1 := h₁
  have h₂ : k'.val ≤ (i (0 : Fin 3)).val ∧ (i (0 : Fin 3)).val < k'.val + 1 := h₂
  exact h (Fin.ext (by omega))

theorem slab_cover {n R : ℕ} : Finset.univ.biUnion (fun k : Fin n => (slabR R k.isLt).set) = Finset.univ := by
  ext i
  simp only [Finset.mem_biUnion, Finset.mem_univ, true_and, iff_true]
  have h0 : (i (0 : Fin 3)).val < n := (i (0 : Fin 3)).isLt
  have h1 : (i (1 : Fin 3)).val < R := (i (1 : Fin 3)).isLt
  have h2 : (i (2 : Fin 3)).val < 128 := (i (2 : Fin 3)).isLt
  refine ⟨⟨(i (0 : Fin 3)).val, h0⟩, Rect.mem_set_unit.mpr fun a => ?_⟩
  fin_cases a
  · exact ⟨le_rfl, Nat.lt_succ_self _⟩
  · exact ⟨Nat.zero_le _, by show (i (1 : Fin 3)).val < 0 + R; omega⟩
  · exact ⟨Nat.zero_le _, by show (i (2 : Fin 3)).val < 0 + 128; omega⟩

omit [FloatOps F] in
/-- A stack at any contents is each of its slots at any contents, -/
theorem stack_cut (c : Dev nD) {n R : ℕ} (M : Memref sig .tc .vmem (Stk n R) .bf16) :
    iprop(∃ X, owns (c : Thread nD τ) M fullShare X) ⊢ (bigSep (Finset.Ico 0 n) (fun k => freeN c M k) : sProp 𝕄) := by
  have e : bigSep (Finset.Ico 0 n) (fun k => freeN c M k) = (bigSep Finset.univ (fun k : Fin n => free c M k.isLt) : sProp 𝕄) := (bigSep_fin (fun k : Fin n => (free c M k.isLt : sProp 𝕄))).symm
  rw [e]
  iintro ⟨%X, H⟩
  iapply ((owns_rects (c : Thread nD τ) M fullShare (fun k : Fin n => slabR R k.isLt) (fun _ _ => rfl) slab_disjoint slab_cover X).trans
    (bigSep_mono fun k _ => free_intro c M k.isLt _))
  iexact H

/-- and back. -/
theorem stack_join (c : Dev nD) {n R : ℕ} (M : Memref sig .tc .vmem (Stk n R) .bf16) :
    (bigSep (Finset.Ico 0 n) (fun k => freeN c M k) : sProp 𝕄) ⊢ iprop(∃ X, owns (c : Thread nD τ) M fullShare X) := by
  have e : bigSep (Finset.Ico 0 n) (fun k => freeN c M k) = (bigSep Finset.univ (fun k : Fin n => free c M k.isLt) : sProp 𝕄) := (bigSep_fin (fun k : Fin n => (free c M k.isLt : sProp 𝕄))).symm
  have hs (k : Fin n) : (free c M k.isLt : sProp 𝕄) ⊢ ownsSat (c : Thread nD τ) (M.slice (slabR R k.isLt) (fun _ => rfl)) fullShare (fun _ => True) := by
    unfold free hold
    iintro ⟨%V, H⟩
    iapply (ownsSat_intro (c : Thread nD τ) (slab M k.isLt) fullShare (X := V) (Φ := fun _ => True) trivial); iexact H
  have hj := ownsSat_of_rects (Ix := ℕ) (Name := ℕ) (U := UU) (Lvl := ℕ) (Val := Elt F) (c : Thread nD τ) M fullShare (fun k : Fin n => slabR R k.isLt) (fun _ _ => rfl)
    slab_disjoint slab_cover (Ψ := fun _ _ => True)
  have hk : (bigSep Finset.univ (fun k : Fin n => free c M k.isLt) : sProp 𝕄) ⊢ ownsSat (c : Thread nD τ) M fullShare (fun _ => ∀ _ : Fin n, True) :=
    Entails.trans (show _ ⊢ _ from bigSep_mono fun k _ => hs k) hj
  rw [e]
  iintro H
  ihave H := hk $$ H
  ihave H := (ownsSat_elim (c : Thread nD τ) M fullShare _) $$ H
  icases H with ⟨%X, -, H⟩
  iexists X; iexact H

/-! ## The working buffers -/

/-- All working buffers of a device, at any contents. -/
def scratch (c : Dev nD) : sProp 𝕄 :=
  iprop((∃ X, owns (c : Thread nD τ) (aM true) fullShare X) ∗ (∃ X, owns (c : Thread nD τ) (aM false) fullShare X) ∗ (∃ X, owns (c : Thread nD τ) xM fullShare X)
    ∗ (∃ X, owns (c : Thread nD τ) (pM true) fullShare X) ∗ (∃ X, owns (c : Thread nD τ) (qM true) fullShare X)
    ∗ (∃ X, owns (c : Thread nD τ) (pM false) fullShare X) ∗ (∃ X, owns (c : Thread nD τ) (qM false) fullShare X))

omit [FloatOps F] in
theorem scratch_eq (c : Dev nD) :
    (Pipeline.scopedRest (Ix := ℕ) (Name := ℕ) (U := UU) (Lvl := ℕ) (Val := Elt F) cfg0.spec c : sProp 𝕄) = scratch c := by
  have e (b : Ref sig .tc) : (iprop(∃ f : Buf (Elt F) ((c : Thread nD τ).loc b), ((c : Thread nD τ).loc b) ↦{fullShare} f) : sProp 𝕄)
      = iprop(∃ X, owns (c : Thread nD τ) (Memref.whole b) fullShare X) := by
    congr 1; funext f; exact (owns_whole (c : Thread nD τ) b fullShare f).symm
  refine (scopedRest0_eq c).trans ?_
  rw [e, e, e, e, e, e, e]
  rfl

/-! ## What the body starts from -/

/-- What the launch deals a device beside what all know: the rights it uses, its credits, and its places at its cells. -/
def gear (c : Dev nD) : sProp 𝕄 :=
  iprop((toksOf true c ∗ toksOf false c ∗ barOf c) ∗ (credsOf true c ∗ credsOf false c ∗ cred (tallyAt (barC c) 0 2))
    ∗ bigSep Finset.univ fun k : Fin 79 => atPos ER (kcell (c, k)) 0 ∅ 0)

/-- What a direction has no use for: the product slot of the device's own block. -/
def idle (b : Bool) (c : Dev nD) : sProp 𝕄 := iprop(freeN c (pM b) 0 ∗ atP b c (cnt_pos b))

theorem enter_todo (b : Bool) (c : Dev nD) :
    iprop(bigSep (Finset.Ico 1 (cnt b)) (fun k => freeN c (pM b) k)
      ∗ bigSep (Finset.Ico 1 (cnt b)) (below (cnt b) fun _ h => dutyTok ER (psdC b c h) 0 true)
      ∗ bigSep (Finset.Ico 1 (cnt b)) (fun k => below (cnt b) (fun _ h => dutyTok ER (prcC b (org b c k) h) 0 true) k)
      ∗ (bigSep (Finset.Ico 1 (cnt b)) (below (cnt b) fun _ h => atPos ER (psdC b c h) 0 ∅ 0) ∗ bigSep (Finset.Ico 1 (cnt b)) (below (cnt b) fun _ h => atPos ER (prcC b c h) 0 ∅ 0))
      ∗ bigSep (Finset.Ico 1 (cnt b)) (fun k => below (cnt b) (fun _ h => cred (tallyAt (prcC b c h) k (amtP b))) k))
    ⊢ (bigSep (Finset.Ico 1 (cnt b)) (fun k => todoP b c k) : sProp 𝕄) := by
  rw [← bigSep_sep', ← bigSep_sep', ← bigSep_sep', ← bigSep_sep', ← bigSep_sep']
  refine bigSep_mono fun k hk => ?_
  have h := (Finset.mem_Ico.mp hk).2
  unfold todoP atP freeN
  rw [dif_pos h, dif_pos h, below_pos _ h, below_pos _ h, below_pos _ h, below_pos _ h, below_pos _ h]
  exact (show (_ : sProp 𝕄) ⊢ _ from Entails.of_eq rfl)

theorem enter_dir (b : Bool) (c : Dev nD) :
    iprop(env m K ∗ toksOf b c ∗ credsOf b c ∗ dirCells b (fun sm => atPos ER ((c : Thread nD τ), sm) 0 ∅ 0)
      ∗ (∃ X, owns (c : Thread nD τ) (aM b) fullShare X) ∗ (∃ X, owns (c : Thread nD τ) (pM b) fullShare X) ∗ (∃ X, owns (c : Thread nD τ) (qM b) fullShare X))
    ⊢ iprop(ini1 b c ∗ idle b c) := by
  have h0 := cnt_pos b
  have eS : bigSep (Finset.Ico 0 3) (fun k => freeN c (aM b) k) = (slots b c : sProp 𝕄) := below_three _
  have hP (A : ℕ → sProp 𝕄) : bigSep (Finset.Ico 0 (cnt b)) A ⊢ iprop(A 0 ∗ bigSep (Finset.Ico 1 (cnt b)) A) := Entails.of_eq (bigSep_Ico_succ_bot h0 A)
  have hZ (f : (k : ℕ) → k < cnt b → sProp 𝕄) : below (cnt b) f 0 ⊢ f 0 h0 := Entails.of_eq (below_pos f h0)
  have hs : iprop(bigSep (Finset.Ico 0 (last b + 1)) (fun s => dutyTok ER (sndC b c s) (s / 3) true)
      ∗ bigSep (Finset.Ico 0 (last b + 1)) (fun s => dutyTok ER (rcvC b (nxt b c) s) (s / 3) true)
      ∗ bigSep (Finset.Ico 0 (last b + 1)) (fun s => cred (tallyAt (rcvC b c s) s (amtA b)))) ⊢ (sends b c 0 : sProp 𝕄) := by
    rw [← bigSep_sep', ← bigSep_sep']; exact .rfl
  have hposS (s : ℕ) (h : s / 3 = 0) : iprop(env m K ∗ atPos ER (sndC b c s) 0 ∅ 0) ⊢ posS b c s := by
    unfold posS; rw [h]
    iintro ⟨#He, H⟩
    isplitl [H]; · iexact H
    iapply (env_reached m K c _ (by rw [use_snd]; exact fun h => by cases h)); iexact He
  have hposR (s : ℕ) (h : s / 3 = 0) : iprop(env m K ∗ atPos ER (rcvC b c s) 0 ∅ 0) ⊢ posR b c s := by
    unfold posR; rw [h]
    iintro ⟨#He, H⟩
    isplitl [H]; · iexact H
    iapply (env_reached m K c _ (by rw [use_rcv]; exact fun h => by cases h)); iexact He
  unfold toksOf credsOf dirCells ini1 idle
  iintro ⟨#He, ⟨Ts, Tr, Tp, Tq⟩, ⟨Ca, Cp⟩, ⟨⟨S0, S1, S2⟩, ⟨R0, R1, R2⟩, Pp, Pq⟩, Ha, Hp, Hq⟩
  ihave Ha := (stack_cut c (aM b)) $$ Ha
  ihave Hp := (stack_cut c (pM b)) $$ Hp
  ihave Hq := (stack_cut c (qM b)) $$ Hq
  ihave Hp := (hP _) $$ Hp
  icases Hp with ⟨Hp0, Hp⟩
  ihave Pp := (hP _) $$ Pp
  icases Pp with ⟨Pp0, Pp⟩
  ihave Pq := (hP _) $$ Pq
  icases Pq with ⟨Pq0, Pq⟩
  isplitr [Hp0 Pp0 Pq0]
  swap
  · unfold atP
    isplitl [Hp0]; · iexact Hp0
    isplitl [Pp0]
    · iapply (hZ fun _ h => (atPos ER (psdC b c h) 0 ∅ 0 : sProp 𝕄)); iexact Pp0
    iapply (hZ fun _ h => (atPos ER (prcC b c h) 0 ∅ 0 : sProp 𝕄)); iexact Pq0
  isplitl [Ha]
  · iapply (Entails.of_eq eS); iexact Ha
  isplitl [Hq]; · unfold grants; iexact Hq
  isplitl [Ts Tr Ca]
  · iapply hs
    isplitl [Ts]; · iexact Ts
    isplitl [Tr]; · iexact Tr
    iexact Ca
  isplitl [S0 S1 S2 R0 R1 R2]
  · unfold posn
    isplitl [S0 S1 S2]
    · isplitl [S0]
      · iapply (hposS 0 rfl); isplitr; · iexact He
        iexact S0
      isplitl [S1]
      · iapply (hposS (0 + 1) rfl); isplitr; · iexact He
        iexact S1
      iapply (hposS (0 + 2) rfl); isplitr; · iexact He
      iexact S2
    isplitl [R0]
    · iapply (hposR 0 rfl); isplitr; · iexact He
      iexact R0
    isplitl [R1]
    · iapply (hposR (0 + 1) rfl); isplitr; · iexact He
      iexact R1
    iapply (hposR (0 + 2) rfl); isplitr; · iexact He
    iexact R2
  iapply (enter_todo b c)
  isplitl [Hp]; · iexact Hp
  isplitl [Tp]; · iexact Tp
  isplitl [Tq]; · iexact Tq
  isplitl [Pp Pq]
  · isplitl [Pp]; · iexact Pp
    iexact Pq
  iexact Cp

/-- What a device is dealt, with its working buffers, is what its body starts from. -/
theorem enter (c : Dev nD) :
    iprop(env m K ∗ gear c ∗ scratch c)
    ⊢ iprop(iniB c ∗ ini1 true c ∗ ini1 false c ∗ (∃ X, owns (c : Thread nD τ) xM fullShare X) ∗ idle true c ∗ idle false c) := by
  unfold gear scratch iniB
  iintro ⟨#He, ⟨⟨Tt, Tf, Tb⟩, ⟨Ct, Cf, Cb⟩, Hat⟩, At, Af, Hx, Pt, Qt, Pf, Qf⟩
  ihave Hat := ((cells_of (fun g => atPos ER g 0 ∅ 0) c).1) $$ Hat
  icases Hat with ⟨Dt, Df, Db⟩
  ihave Ht := (enter_dir m K true c) $$ [Tt Ct Dt At Pt Qt]
  · isplitr; · iexact He
    isplitl [Tt]; · iexact Tt
    isplitl [Ct]; · iexact Ct
    isplitl [Dt]; · iexact Dt
    isplitl [At]; · iexact At
    isplitl [Pt]; · iexact Pt
    iexact Qt
  ihave Hf := (enter_dir m K false c) $$ [Tf Cf Df Af Pf Qf]
  · isplitr; · iexact He
    isplitl [Tf]; · iexact Tf
    isplitl [Cf]; · iexact Cf
    isplitl [Df]; · iexact Df
    isplitl [Af]; · iexact Af
    isplitl [Pf]; · iexact Pf
    iexact Qf
  icases Ht with ⟨Ht, It⟩
  icases Hf with ⟨Hf, If⟩
  isplitl [Tb Db Cb]
  · unfold barOf
    icases Tb with ⟨T0, T1⟩
    isplitl [T0]; · iexact T0
    isplitl [T1]; · iexact T1
    isplitl [Db]; · iexact Db
    iexact Cb
  isplitl [Ht]; · iexact Ht
  isplitl [Hf]; · iexact Hf
  isplitl [Hx]; · iexact Hx
  isplitl [It]; · iexact It
  iexact If

/-! ## The cells closed -/

theorem close_snd (b : Bool) (c : Dev nD) {s : ℕ} (h : last b < s) : iprop(env m K ∗ posS b c s) ⊢ |={Set.univ}=> (semVal (sndC b c s) 0 : sProp 𝕄) := by
  unfold posS
  iintro ⟨#He, H, -⟩
  imod (Rounds.cell_close ER (Rd m) (Set.mem_univ (nm K c (sndL b (mod3 s)))) (fun h => h) (R := s / 3) (fun r hr => duties_snd_later m b c s h r hr)) $$ [H] with Hz
  · isplitr; · iapply (env_snd m K b c s); iexact He
    iexact H
  imodintro; iexact Hz
theorem close_rcv (b : Bool) (c : Dev nD) {s : ℕ} (h : last b < s) : iprop(env m K ∗ posR b c s) ⊢ |={Set.univ}=> (semVal (rcvC b c s) 0 : sProp 𝕄) := by
  unfold posR
  iintro ⟨#He, H, -⟩
  imod (Rounds.cell_close ER (Rd m) (Set.mem_univ (nm K c (rcvL b (mod3 (s + 1))))) (fun h => h) (R := s / 3) (fun r hr => duties_rcv_later m b c s h r hr)) $$ [H] with Hz
  · isplitr; · iapply (env_rcv m K b c s); iexact He
    iexact H
  imodintro; iexact Hz
theorem close_idle (b : Bool) (c : Dev nD) : iprop(env m K ∗ atP b c (cnt_pos b)) ⊢ |={Set.univ}=> (iprop(semVal (psdC b c (cnt_pos b)) 0 ∗ semVal (prcC b c (cnt_pos b)) 0) : sProp 𝕄) := by
  unfold atP
  iintro ⟨#He, HS, HR⟩
  imod (Rounds.cell_close ER (Rd m) (Set.mem_univ (nm K c (psdL b (cnt_pos b)))) (fun h => h) (R := 0) (fun r _ => duties_psd_later m b c (cnt_pos b) r (Or.inr rfl))) $$ [HS] with HzS
  · isplitr; · iapply (env_psd m K b c (cnt_pos b)); iexact He
    iexact HS
  imod (Rounds.cell_close ER (Rd m) (Set.mem_univ (nm K c (prcL b (cnt_pos b)))) (fun h => h) (R := 0) (fun r _ => duties_prc_later m b c (cnt_pos b) r (Or.inr rfl))) $$ [HR] with HzR
  · isplitr; · iapply (env_prc m K b c (cnt_pos b)); iexact He
    iexact HR
  imodintro
  isplitl [HzS] <;> iassumption

omit [FloatOps F] in
/-- The three cells of a direction's slots, in the order of three steps from one on. -/
theorem three_snd (b : Bool) (c : Dev nD) : iprop(semVal (sndC b c (last b + 1)) 0 ∗ semVal (sndC b c (last b + 1 + 1)) 0 ∗ semVal (sndC b c (last b + 1 + 2)) 0)
    ⊢ (iprop(semVal (sndC b c 0) 0 ∗ semVal (sndC b c 1) 0 ∗ semVal (sndC b c 2) 0) : sProp 𝕄) := by
  have e {i j : ℕ} (h : i % 3 = j % 3) : (semVal (sndC b c i) 0 : sProp 𝕄) ⊢ semVal (sndC b c j) 0 := Entails.of_eq (by
    unfold sndC sndL; rw [semAt_congr _ (mod3 i) (mod3 j) h])
  cases b
  · exact BIClass.sep_mono (e (by decide)) (BIClass.sep_mono (e (by decide)) (e (by decide)))
  · iintro ⟨H1, H2, H0⟩
    isplitl [H0]; · iapply (e (i := last true + 1 + 2) (j := 0) (by decide)); iexact H0
    isplitl [H1]; · iapply (e (i := last true + 1) (j := 1) (by decide)); iexact H1
    iapply (e (i := last true + 1 + 1) (j := 2) (by decide)); iexact H2
omit [FloatOps F] in
theorem three_rcv (b : Bool) (c : Dev nD) : iprop(semVal (rcvC b c (last b + 1)) 0 ∗ semVal (rcvC b c (last b + 1 + 1)) 0 ∗ semVal (rcvC b c (last b + 1 + 2)) 0)
    ⊢ (iprop(semVal (rcvC b c 0) 0 ∗ semVal (rcvC b c 1) 0 ∗ semVal (rcvC b c 2) 0) : sProp 𝕄) := by
  have e {i j : ℕ} (h : (i + 1) % 3 = (j + 1) % 3) : (semVal (rcvC b c i) 0 : sProp 𝕄) ⊢ semVal (rcvC b c j) 0 := Entails.of_eq (by
    unfold rcvC rcvL; rw [semAt_congr _ (mod3 (i + 1)) (mod3 (j + 1)) h])
  cases b
  · exact BIClass.sep_mono (e (by decide)) (BIClass.sep_mono (e (by decide)) (e (by decide)))
  · iintro ⟨H1, H2, H0⟩
    isplitl [H0]; · iapply (e (i := last true + 1 + 2) (j := 0) (by decide)); iexact H0
    isplitl [H1]; · iapply (e (i := last true + 1) (j := 1) (by decide)); iexact H1
    iapply (e (i := last true + 1 + 1) (j := 2) (by decide)); iexact H2

theorem close_posn (b : Bool) (c : Dev nD) : iprop(env m K ∗ posn b c (last b + 1)) ⊢ |={Set.univ}=> (iprop(
      (semVal (sndC b c 0) 0 ∗ semVal (sndC b c 1) 0 ∗ semVal (sndC b c 2) 0) ∗ (semVal (rcvC b c 0) 0 ∗ semVal (rcvC b c 1) 0 ∗ semVal (rcvC b c 2) 0)) : sProp 𝕄) := by
  unfold posn
  iintro ⟨#He, ⟨S0, S1, S2⟩, ⟨R0, R1, R2⟩⟩
  imod (close_snd m K b c (s := last b + 1) (by omega)) $$ [S0] with S0
  · isplitr; · iexact He
    iexact S0
  imod (close_snd m K b c (s := last b + 1 + 1) (by omega)) $$ [S1] with S1
  · isplitr; · iexact He
    iexact S1
  imod (close_snd m K b c (s := last b + 1 + 2) (by omega)) $$ [S2] with S2
  · isplitr; · iexact He
    iexact S2
  imod (close_rcv m K b c (s := last b + 1) (by omega)) $$ [R0] with R0
  · isplitr; · iexact He
    iexact R0
  imod (close_rcv m K b c (s := last b + 1 + 1) (by omega)) $$ [R1] with R1
  · isplitr; · iexact He
    iexact R1
  imod (close_rcv m K b c (s := last b + 1 + 2) (by omega)) $$ [R2] with R2
  · isplitr; · iexact He
    iexact R2
  imodintro
  isplitl [S0 S1 S2]
  · iapply (three_snd b c)
    isplitl [S0]; · iexact S0
    isplitl [S1]; · iexact S1
    iexact S2
  iapply (three_rcv b c)
  isplitl [R0]; · iexact R0
  isplitl [R1]; · iexact R1
  iexact R2

theorem done_split (b : Bool) (c : Dev nD) : bigSep (Finset.Ico 1 (cnt b)) (fun k => doneP b c k)
    ⊢ (iprop(bigSep (Finset.Ico 1 (cnt b)) (fun k => freeN c (pM b) k) ∗ bigSep (Finset.Ico 1 (cnt b)) (fun k => freeN c (qM b) k)
      ∗ bigSep (Finset.Ico 1 (cnt b)) (below (cnt b) fun _ h => semVal (psdC b c h) 0) ∗ bigSep (Finset.Ico 1 (cnt b)) (below (cnt b) fun _ h => semVal (prcC b c h) 0)) : sProp 𝕄) := by
  rw [← bigSep_sep', ← bigSep_sep', ← bigSep_sep']
  refine bigSep_mono fun k hk => ?_
  have h := (Finset.mem_Ico.mp hk).2
  unfold doneP freeN
  rw [dif_pos h, dif_pos h, dif_pos h, below_pos _ h, below_pos _ h]
  exact (show (_ : sProp 𝕄) ⊢ _ from Entails.of_eq rfl)

theorem exit_dir (b : Bool) (c : Dev nD) :
    iprop(env m K ∗ fin1 b c ∗ idle b c ∗ freeN (org b c 0) (qM b) 0)
    ⊢ |={Set.univ}=> iprop(dirCells b (fun sm => (semVal ((c : Thread nD τ), sm) 0 : sProp 𝕄))
      ∗ (∃ X, owns (c : Thread nD τ) (aM b) fullShare X) ∗ (∃ X, owns (c : Thread nD τ) (pM b) fullShare X) ∗ (∃ X, owns (c : Thread nD τ) (qM b) fullShare X)) := by
  have h0 := cnt_pos b
  have eS : bigSep (Finset.Ico 0 3) (fun k => freeN c (aM b) k) = (slots b c : sProp 𝕄) := below_three _
  have hP (A : ℕ → sProp 𝕄) : iprop(A 0 ∗ bigSep (Finset.Ico 1 (cnt b)) A) ⊢ bigSep (Finset.Ico 0 (cnt b)) A := Entails.of_eq (bigSep_Ico_succ_bot h0 A).symm
  have hZ (f : (k : ℕ) → k < cnt b → sProp 𝕄) : f 0 h0 ⊢ below (cnt b) f 0 := Entails.of_eq (below_pos f h0).symm
  rw [org_zero]
  unfold fin1 idle dirCells
  iintro ⟨#He, ⟨Ha, Hpos, Hdone⟩, ⟨Hp0, Hat⟩, Hq0⟩
  imod (close_posn m K b c) $$ [Hpos] with ⟨HS, HR⟩
  · isplitr; · iexact He
    iexact Hpos
  imod (close_idle m K b c) $$ [Hat] with ⟨Zs, Zr⟩
  · isplitr; · iexact He
    iexact Hat
  imodintro
  ihave Hdone := (done_split b c) $$ Hdone
  icases Hdone with ⟨Hp, Hq, Vs, Vr⟩
  isplitr [Ha Hp0 Hp Hq0 Hq]
  · isplitl [HS]; · iexact HS
    isplitl [HR]; · iexact HR
    isplitl [Zs Vs]
    · iapply (hP _)
      isplitl [Zs]
      · iapply (hZ fun _ h => (semVal (psdC b c h) 0 : sProp 𝕄)); iexact Zs
      iexact Vs
    iapply (hP _)
    isplitl [Zr]
    · iapply (hZ fun _ h => (semVal (prcC b c h) 0 : sProp 𝕄)); iexact Zr
    iexact Vr
  isplitl [Ha]
  · iapply (stack_join c (aM b))
    iapply (Entails.of_eq eS.symm); iexact Ha
  isplitl [Hp0 Hp]
  · iapply (stack_join c (pM b))
    iapply (hP _)
    isplitl [Hp0]; · iexact Hp0
    iexact Hp
  iapply (stack_join c (qM b))
  iapply (hP _)
  isplitl [Hq0]; · iexact Hq0
  iexact Hq

/-- Once the body is through, every cell is at zero and every working buffer whole again. -/
theorem exit (c : Dev nD) :
    iprop(env m K ∗ (fin1 true c ∗ fin1 false c ∗ home c ∗ semVal (barC c) 0 ∗ xS m c) ∗ idle true c ∗ idle false c)
    ⊢ |={Set.univ}=> iprop(bigSep Finset.univ (fun k : Fin 79 => (semVal (kcell (c, k)) 0 : sProp 𝕄)) ∗ scratch c) := by
  unfold home scratch xS
  iintro ⟨#He, ⟨Ht, Hf, ⟨Qt, Qf⟩, Hb, Hx⟩, It, If⟩
  imod (exit_dir m K true c) $$ [Ht It Qt] with ⟨Dt, At, Pt, Qt⟩
  · isplitr; · iexact He
    isplitl [Ht]; · iexact Ht
    isplitl [It]; · iexact It
    iexact Qt
  imod (exit_dir m K false c) $$ [Hf If Qf] with ⟨Df, Af, Pf, Qf⟩
  · isplitr; · iexact He
    isplitl [Hf]; · iexact Hf
    isplitl [If]; · iexact If
    iexact Qf
  imodintro
  isplitl [Dt Df Hb]
  · iapply ((cells_of (fun g => (semVal g 0 : sProp 𝕄)) c).2)
    isplitl [Dt]; · iexact Dt
    isplitl [Df]; · iexact Df
    iexact Hb
  isplitl [At]; · iexact At
  isplitl [Af]; · iexact Af
  isplitl [Hx]; · iexists xB m c; iexact Hx
  isplitl [Pt]; · iexact Pt
  isplitl [Qt]; · iexact Qt
  isplitl [Pf]; · iexact Pf
  iexact Qf

end Cert.KernelIdeal.Ring

end
-- ==== Proof.KernelIdeal.Run.lean ====
/-
The launch: every device's body from what it is dealt to what it leaves, and the run of the whole program.
-/
module

public import proofs.«01_k».proof.Proof.KernelIdeal.Start
public import Idealize.ShloMosaic.Lib.Pipeline.CollectiveSegs

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

/-! ## What the body leaves -/

/-- The device whose rows row `y` of a result belongs to, -/
def rowDev (y : S8192x128.Idx) : Dev nD := ⟨(y (0 : Fin 2)).val / 256, by
    have h : (y (0 : Fin 2)).val < 8192 := (y (0 : Fin 2)).isLt
    show (y (0 : Fin 2)).val / 256 < 32
    omega⟩
/-- and its place among them. -/
def rowIx (y : S8192x128.Idx) : S256x128.Idx := fun a =>
  ⟨(![(y (0 : Fin 2)).val % 256, (y (1 : Fin 2)).val] : Fin 2 → ℕ) a, by
    have h : (y (1 : Fin 2)).val < 128 := (y (1 : Fin 2)).isLt
    fin_cases a
    · exact Nat.mod_lt _ (by decide)
    · exact h⟩

/-- The result of device `c`: band `o` of rows is device `o`'s block of the first operand times `c`'s block of the second. -/
def outAt (c : Dev nD) : Vec F S8192x128 .f32 := fun y => band m c (rowDev y) (rowIx y)

theorem out_all (c : Dev nD) : outS m c (fun _ => True) ⊢ (owns (c : Thread nD τ) outM fullShare (outAt m c) : sProp 𝕄) := by
  unfold outS
  refine (ownsSat_elim (c : Thread nD τ) outM fullShare _).trans ?_
  iintro ⟨%X, %hX, H⟩
  have e : X = outAt m c := by
    funext y
    refine hX (rowDev y) trivial (rowIx y) y ?_ rfl
    show (y (0 : Fin 2)).val = 256 * ((y (0 : Fin 2)).val / 256) + (y (0 : Fin 2)).val % 256
    omega
  rw [← e]; iexact H

/-! ## The proof data -/

/-- What device `c` starts from. -/
def start (c : Dev nD) : sProp 𝕄 := iprop(∃ K, env m K ∗ gear c)
def Φ₀ (c : Dev nD) : sProp 𝕄 := iprop(start m c ∗ scratch c)
/-- And what it ends with beside its operands and its result. -/
def Φ₁ (c : Dev nD) : sProp 𝕄 := iprop(bigSep Finset.univ (fun k : Fin 79 => (semVal (kcell (c, k)) 0 : sProp 𝕄)) ∗ scratch c)

/-- The memory at the start, all counters at zero. -/
def s₀ : MemSt nD τ sig (Elt F) := ⟨m, fun _ => 0, ρ⟩

def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => xstg m c
    | ⟨1, _⟩ => wstg m c
    | ⟨2, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

omit [FloatOps F] in
theorem bigSep_W (Φ : Fin cfg0.W → sProp 𝕄) : bigSep Finset.univ Φ = iprop(Φ (0 : Fin 3) ∗ Φ (1 : Fin 3) ∗ Φ (2 : Fin 3)) := bigSep_W0 Φ

abbrev t₀ : Fin cfg0.N := t0_0

/-! ## The body -/

def bodyPre (c : Dev nD) : sProp 𝕄 :=
  iprop(Φ₀ m c ∗ (dats m ρ 0 c).owesAt 0 t₀.castSucc
    ∗ (∃ d, owns (c : Thread nD τ) xIn fullShare ((dats m ρ 0 c).before (0 : Fin 3) t₀ d))
    ∗ (∃ d, owns (c : Thread nD τ) wIn fullShare ((dats m ρ 0 c).before (1 : Fin 3) t₀ d))
    ∗ (∃ d, owns (c : Thread nD τ) outM fullShare ((dats m ρ 0 c).before (2 : Fin 3) t₀ d)))

def bodyPost (c : Dev nD) : sProp 𝕄 :=
  iprop(Φ₁ c ∗ (dats m ρ 0 c).owesAt 0 t₀.succ ∗ owns (c : Thread nD τ) xIn fullShare (xstg m c) ∗ owns (c : Thread nD τ) wIn fullShare (wstg m c)
    ∗ owns (c : Thread nD τ) outM fullShare (outAt m c))

theorem before_x (c : Dev nD) (d) : (dats m ρ 0 c).before (0 : Fin 3) t₀ d = xstg m c := by
  unfold Dat.before; rw [if_pos (fetch0_0 t₀)]; rfl
theorem before_w (c : Dev nD) (d) : (dats m ρ 0 c).before (1 : Fin 3) t₀ d = wstg m c := by
  unfold Dat.before; rw [if_pos (fetch0_1 t₀)]; rfl

theorem debt_in (c : Dev nD) : (dats m ρ 0 c).owesAt 0 t₀.castSucc ⊢ (debt c (due c 0 0 1 1 + owesB c) : sProp 𝕄) := by
  unfold Dat.owesAt Pipeline.owesWithin debt
  iintro ⟨%W, -, H⟩
  iexists W; iexact H
theorem debt_out (c : Dev nD) : (debt c 0 : sProp 𝕄) ⊢ (dats m ρ 0 c).owesAt 0 t₀.succ := by
  unfold Dat.owesAt Pipeline.owesWithin debt
  iintro ⟨%W, H⟩
  iexists W
  isplitr; · ipureintro; exact fun _ _ => Or.inl trivial
  iexact H

/-- The body of device `c` runs from `bodyPre` to `bodyPost`. -/
theorem sound_body (c : Dev nD) : bodyPre m ρ c ⊢ run c (.op .deviceId fun d0 => steps d0) (fun _ => bodyPost m ρ c) := by
  unfold bodyPre Φ₀ start run
  simp only [wp_deviceId]
  iintro ⟨⟨⟨%K, #He, Hg⟩, Hscr⟩, Ho, ⟨%d, Hx⟩, ⟨%d', Hw⟩, ⟨%d'', Hout⟩⟩
  ihave Hx := (Entails.of_eq (congrArg (fun X => (owns (c : Thread nD τ) xIn fullShare X : sProp 𝕄)) (before_x m ρ c d))) $$ Hx
  ihave Hw := (Entails.of_eq (congrArg (fun X => (owns (c : Thread nD τ) wIn fullShare X : sProp 𝕄)) (before_w m ρ c d'))) $$ Hw
  ihave Hi := (enter m K c) $$ [Hg Hscr]
  · isplitr; · iexact He
    isplitl [Hg]; · iexact Hg
    iexact Hscr
  icases Hi with ⟨HB, Ht, Hf, HxM, It, If⟩
  ihave Ho := (debt_in m ρ c) $$ Ho
  iapply (wp_fupd)
  iapply (wp_steps m K (Q := fun _ => iprop(|={Set.univ}=> bodyPost m ρ c)) c fullShare fullShare)
  isplitr; · iexact He
  isplitl [HB]; · iexact HB
  isplitl [Ht]; · iexact Ht
  isplitl [Hf]; · iexact Hf
  isplitl [Hx]; · iexact Hx
  isplitl [Hw]; · iexact Hw
  isplitl [HxM]; · iexact HxM
  isplitl [Hout]; · iexists _; iexact Hout
  isplitl [Ho]; · iexact Ho
  iintro ⟨Ht, Hf, Hh, Hb, Hx, Hw, HxS, Hout, Ho⟩
  imod (exit m K c) $$ [Ht Hf Hh Hb HxS It If] with ⟨Hz, Hscr⟩
  · isplitr; · iexact He
    isplitl [Ht Hf Hh Hb HxS]
    · isplitl [Ht]; · iexact Ht
      isplitl [Hf]; · iexact Hf
      isplitl [Hh]; · iexact Hh
      isplitl [Hb]; · iexact Hb
      iexact HxS
    isplitl [It]; · iexact It
    iexact If
  imodintro
  unfold bodyPost Φ₁
  isplitl [Hz Hscr]
  · isplitl [Hz]; · iexact Hz
    iexact Hscr
  isplitl [Ho]
  · iapply (debt_out m ρ c); iexact Ho
  isplitl [Hx]; · iexact Hx
  isplitl [Hw]; · iexact Hw
  iapply (out_all m c); iexact Hout

set_option maxRecDepth 20000 in
/-- What the pipeline calls at its one point is the body. -/
theorem called : defs₀ (F := F) .tc cfg0.body (cfg0.bodyArgs t₀ (cfg0.slots t₀)) = .op .deviceId fun d0 => steps d0 :=
  (show defs₀ (F := F) .tc cfg0.body (cfg0.bodyArgs t₀ (cfg0.slots t₀))
      = cc0_body (F := F) xIn (Memref.isWhole_whole _) wIn (Memref.isWhole_whole _) outM (Memref.isWhole_whole _) (Memref.whole cc0_scratch0) (Memref.isWhole_whole _)
          (Memref.whole cc0_scratch1) (Memref.isWhole_whole _) xM (Memref.isWhole_whole _) (Memref.whole cc0_scratch3) (Memref.isWhole_whole _)
          (Memref.whole cc0_scratch4) (Memref.isWhole_whole _) (Memref.whole cc0_scratch5) (Memref.isWhole_whole _) (Memref.whole cc0_scratch6) (Memref.isWhole_whole _)
          cc0_scratch7 cc0_scratch8 cc0_scratch9 cc0_scratch10 cc0_scratch11 cc0_scratch12 cc0_scratch13 cc0_scratch14 from rfl).trans body_eq

set_option maxRecDepth 20000 in
/-- The same, as the launch asks for it. -/
theorem body_obligation (c : Dev nD) : BodyObligation (dats (F := F) m ρ 0 c) (defs₀ (F := F)) 𝒱₀ 0 Set.univ := fun t => by
  rw [fin_N0 t]
  rw [bigSep_W, bigSep_W, called]
  exact sound_body m ρ c

/-! ## The launch -/

/-- The body's own semaphores. -/
def osem (k : Fin 78) : SemLoc sig := .dma ⟨k.val + 3, (by omega : k.val + 3 < 81)⟩

theorem ownSemFacts : Pipeline.OwnSemFacts cfg0.spec osem := by decide

theorem share_eq (c : Dev nD) (w : Fin cfg0.W) : (dats m ρ 0 c).share w = fullShare := by unfold Dat.share; split <;> rfl

def ringCells : Finset (GSem nD τ sig) := Finset.univ.map ⟨kcell, kcell_injective⟩

/-- The rights minted: for each cell, both duties of six rounds. -/
def tokOf (p : (Dev nD × Fin 79) × (Fin 6 × Bool)) : GSem nD τ sig × ℕ × Bool := (kcell p.1, p.2.1.val, p.2.2)
theorem tokOf_injective : Function.Injective tokOf := by
  rintro ⟨p, r, d⟩ ⟨p', r', d'⟩ h
  have h₁ : p = p' := kcell_injective (congrArg (fun x : GSem nD τ sig × ℕ × Bool => x.1) h)
  have h₂ : r = r' := Fin.ext (congrArg (fun x : GSem nD τ sig × ℕ × Bool => x.2.1) h)
  have h₃ : d = d' := congrArg (fun x : GSem nD τ sig × ℕ × Bool => x.2.2) h
  rw [h₁, h₂, h₃]
def ringToks : Finset (GSem nD τ sig × ℕ × Bool) := Finset.univ.map ⟨tokOf, tokOf_injective⟩

def u₀ : UU := (initOf (Pipeline.cells cfgs cellOf_inj) (Pipeline.launchToks cfgs cellOf_inj), initOf ringCells ringToks)

/-- What is minted for device `c`, -/
def G (c : Dev nD) : sProp 𝕄 :=
  iprop((bigSep Finset.univ fun k : Fin 79 => roundState ER (Rd m) (kcell (c, k)) 0)
    ∗ (bigSep Finset.univ fun k : Fin 79 => iprop(atPos ER (kcell (c, k)) 0 ∅ 0 ∗ reached ER (kcell (c, k)) 0))
    ∗ bigSep Finset.univ fun k : Fin 79 => tks (kcell (c, k)))

/-- the facts all devices share without the levels, -/
def known (K : Dev nD × Fin 79 → ℕ) : sProp 𝕄 :=
  iprop(bigSep Finset.univ (fun p : Dev nD × Fin 79 => cellInv ER (Rd m) (K p) (kcell p)) ∗ bigSep Finset.univ (fun p : Dev nD × Fin 79 => reached ER (kcell p) 0))
instance known_persistent (K : Dev nD × Fin 79 → ℕ) : BI.Persistent (known m K) := by unfold known; infer_instance

/-- the rights at its own cells, those it uses, -/
def toksHere (c : Dev nD) : sProp 𝕄 := iprop(toksAt true c ∗ toksAt false c ∗ barAt c)
def toksThere (c : Dev nD) : sProp 𝕄 := iprop(toksOf true c ∗ toksOf false c ∗ barOf c)
/-- and what it has once all cells are set up. -/
def G' (c : Dev nD) : sProp 𝕄 := iprop(∃ K, known m K ∗ toksThere c ∗ bigSep Finset.univ fun k : Fin 79 => atPos ER (kcell (c, k)) 0 ∅ 0)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Fin 79 => Φ (kcell (c, k)) := by
    unfold ringCells; rw [bigSep_map, bigSep_univ_prod]; rfl
  have hT : bigSep ringToks (fun x => (dutyTok ER x.1 x.2.1 x.2.2 : sProp 𝕄))
      = bigSep Finset.univ fun c : Dev nD => bigSep Finset.univ fun k : Fin 79 => tks (kcell (c, k)) := by
    unfold ringToks; rw [bigSep_map, bigSep_univ_prod, bigSep_univ_prod]; rfl
  iintro HX
  imod (Rounds.fund ER (Rd m) ringCells ringToks) $$ HX with ⟨Hst, Hr, Hat, Htok⟩
  imodintro
  ihave Hst := (Entails.of_eq (hX fun g => roundState ER (Rd m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat Hr]
  · isplitl [Hat] <;> iassumption
  iexact Htok

omit [FloatOps F] in
theorem unscopedSems0_eq (c : Dev nD) : (unscopedSems0 c : sProp 𝕄) = semVal (barC c) 0 := by
  unfold unscopedSems0; rw [bigSep_eq_bigSepL_of_eq [SemLoc.reg barS] (by decide) (by decide)]; rfl

omit [FloatOps F] in
/-- The counters of all of a device's cells are those of its own semaphores and of its barrier. -/
theorem sems0_eq (c : Dev nD) :
    (bigSep Finset.univ fun k : Fin 79 => semVal (kcell (c, k)) 0 : sProp 𝕄)
      = iprop(Pipeline.ownSems0 (Ix := ℕ) (Name := ℕ) (U := UU) (Lvl := ℕ) (Val := Elt F) (τ := τ) osem c ∗ unscopedSems0 c) := by
  have e : (Pipeline.ownSems0 (Ix := ℕ) (Name := ℕ) (U := UU) (Lvl := ℕ) (Val := Elt F) (τ := τ) osem c : sProp 𝕄)
      = bigSep Finset.univ fun k : Fin 78 => semVal ((c : Thread nD τ), osem k) 0 := rfl
  rw [unscopedSems0_eq, e, bigSep_fin, bigSep_fin, bigSep_cut (b := 78) (by decide) (by decide), show Finset.Ico 78 79 = Finset.Ico 78 (78 + 1) from rfl, bigSep_Ico_one]
  refine congrArg₂ (fun A B : sProp 𝕄 => iprop(A ∗ B)) (bigSep_congr fun k hk => ?_) ?_
  · have h := (Finset.mem_Ico.mp hk).2
    rw [below_pos _ h, below_pos _ (by omega)]
    unfold kcell csem osem
    rw [dif_pos h]
  · rw [below_pos _ (by decide)]; rfl

theorem core_alloc (c : Dev nD) :
    iprop(Pipeline.ownSems0 (Ix := ℕ) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (kcell (c, k))))
          ∗ ((bigSep Finset.univ fun k : Fin 79 => atPos ER (kcell (c, k)) 0 ∅ 0) ∗ (bigSep Finset.univ fun k : Fin 79 => reached ER (kcell (c, k)) 0)) ∗ toksHere c) := by
  have hI : iprop((bigSep Finset.univ fun k : Fin 79 => semVal (kcell (c, k)) 0) ∗ bigSep Finset.univ fun k : Fin 79 => roundState ER (Rd m) (kcell (c, k)) 0)
      ⊢ (|={Set.univ}=> bigSep Finset.univ fun k => iprop(∃ κ : ℕ, cellInv ER (Rd m) κ (kcell (c, k))) : sProp 𝕄) := by
    rw [← bigSep_sep']
    exact (bigSep_mono fun k _ => (Rounds.body_intro ER (Rd m) (kcell (c, k))).trans inv_alloc).trans (bigSep_fupd _ _)
  have hT : (bigSep Finset.univ fun k : Fin 79 => tks (kcell (c, k))) ⊢ (toksHere c : sProp 𝕄) :=
    (cells_of tks c).1.trans (BIClass.sep_mono (toks_dir true c) (BIClass.sep_mono (toks_dir false c) (tks_both (barC c))))
  unfold G
  rw [bigSep_sep']
  iintro ⟨Hos, Hus, Hst, Hat, Htok⟩
  ihave Hv := (Entails.of_eq (sems0_eq (F := F) c).symm) $$ [Hos Hus]
  · isplitl [Hos] <;> iassumption
  imod hI $$ [Hv Hst] with Hinv
  · isplitl [Hv] <;> iassumption
  imodintro
  isplitl [Hinv]; · iexact Hinv
  isplitl [Hat]; · iexact Hat
  iapply hT; iexact Htok

omit [FloatOps F] in
/-- The rights dealt around the ring. -/
theorem deal : bigSep Finset.univ (fun c => (toksHere c : sProp 𝕄)) ⊢ bigSep Finset.univ (fun c => toksThere c) := by
  unfold toksHere toksThere
  rw [bigSep_sep', bigSep_sep', bigSep_sep', bigSep_sep']
  exact BIClass.sep_mono (toks_around true) (BIClass.sep_mono (toks_around false) bar_around)

theorem regroup :
    (bigSep Finset.univ fun c : Dev nD => iprop((bigSep Finset.univ fun k => iprop(∃ κ : ℕ, cellInv ER (Rd m) κ (kcell (c, k))))
          ∗ ((bigSep Finset.univ fun k : Fin 79 => atPos ER (kcell (c, k)) 0 ∅ 0) ∗ (bigSep Finset.univ fun k : Fin 79 => reached ER (kcell (c, k)) 0)) ∗ toksHere c) : sProp 𝕄)
      ⊢ bigSep Finset.univ (G' m) := by
  have hG (K : Dev nD × Fin 79 → ℕ) (c : Dev nD) : iprop(known m K ∗ ((bigSep Finset.univ fun k : Fin 79 => atPos ER (kcell (c, k)) 0 ∅ 0) ∗ toksThere c)) ⊢ G' m c := by
    unfold G'
    iintro ⟨Hk, Hat, Ht⟩
    iexists K
    isplitl [Hk]; · iexact Hk
    isplitl [Ht]; · iexact Ht
    iexact Hat
  rw [bigSep_sep', bigSep_sep', bigSep_sep', ← bigSep_univ_prod (fun p : Dev nD × Fin 79 => iprop(∃ κ : ℕ, cellInv ER (Rd m) κ (kcell p))),
    ← bigSep_univ_prod (fun p : Dev nD × Fin 79 => (reached ER (kcell p) 0 : sProp 𝕄))]
  iintro ⟨HI, ⟨Hat, #HR⟩, Htok⟩
  ihave HK := (BI.bigSep_exists_pi Finset.univ (fun (p : Dev nD × Fin 79) (κ : ℕ) => (cellInv ER (Rd m) κ (kcell p) : sProp 𝕄))) $$ HI
  icases HK with ⟨%K, #HI⟩
  ihave Htk := (deal (F := F)) $$ Htok
  iapply (BI.bigSep_with_persistent (R := known m K) fun c _ => hG K c)
  isplitr
  · unfold known; isplitl; · iexact HI
    iexact HR
  rw [bigSep_sep']
  isplitl [Hat]; · iexact Hat
  iexact Htk

theorem glob : (bigSep Finset.univ fun c => iprop(Pipeline.ownSems0 (Ix := ℕ) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ### Its side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  unfold start G' env gear toksThere known
  iintro ⟨-, Hlev, Hcr, -, ⟨%K, HK, HT, Hat⟩⟩
  ihave Hc := (creds (F := F) c) $$ Hcr
  imodintro
  isplitl
  · iexists K
    isplitl [HK Hlev]
    · isplitl [HK]; · iexact HK
      iexact Hlev
    isplitl [HT]; · iexact HT
    isplitl [Hc]; · iexact Hc
    iexact Hat
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scratch_eq]
  unfold Φ₀
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scratch_eq]
  unfold Φ₁
  rw [sems0_eq]
  iintro ⟨⟨Ho, Hu⟩, Hr⟩
  isplitl [Hu]; · iexact Hu
  isplitl [Ho]; · iexact Ho
  iexact Hr

omit [FloatOps F] in
/-- Staging semaphores lie at level 0, below all that is owed. -/
theorem mayWait_stage (c : Dev nD) (sm : SemLoc sig) (h : useOf sm = .oth) (O : CellTallies nD τ sig ℕ) (hO : O = O₀ c ∨ O = 0) :
    (levAts L lv : sProp 𝕄) ⊢ MayWait (c : Thread nD τ) sm 0 O := by
  have hO' : Above 0 O := by
    rcases hO with rfl | rfl
    · exact above_add (above_due c (by omega) (by omega) (by omega) (by omega))
        (above_add (above_at _ _ _ (by decide) (by rw [lv_bar]; decide)) (above_at _ _ _ (by decide) (by rw [lv_bar]; decide)))
    · exact above_zero 0
  exact mayWait c sm (by decide) (n := 0) (by unfold lv; rw [h]) hO'

theorem waits (c : Dev nD) : (levAts L lv : sProp 𝕄) ⊢ Pipeline.cellsWaits cfgs (dats m ρ) 0 0 c :=
  Pipeline.cellsWaits_intro cfgs (dats m ρ) 0 0 c fun w s t =>
    mayWait_stage c _ (by fin_cases w <;> fin_cases s <;> decide) _ (by
      rcases t with ⟨_ | _, ht⟩
      · exact Or.inl rfl
      · exact Or.inr rfl)

/-! ### The run -/

/-- What an operand's or the result's array holds after the run. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 30000 in
/-- From any memory with all counters at zero the program runs to its end, every array holds what `finalA` says and all
counters are at zero again. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) 0 cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.KernelIdeal.Ring

end
-- ==== Proof.KernelIdeal.Final.lean ====
/-
The arrays after the run: the operands as they were and the result.
-/
module

public import proofs.«01_k».proof.Proof.KernelIdeal.Run
public import Idealize.ShloMosaic.Lib.Pipeline.ValueKit.Geometry

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

theorem final_x (c : Dev nD) : finalA m ρ c (0 : Fin 3) = m ((c : Thread nD τ).loc main_arg0) := (dats m ρ 0 c).arrAt_in (0 : Fin 3) rfl _
theorem final_w (c : Dev nD) : finalA m ρ c (1 : Fin 3) = m ((c : Thread nD τ).loc main_arg1) := (dats m ρ 0 c).arrAt_in (1 : Fin 3) rfl _

theorem final_out (c : Dev nD) : finalA m ρ c (2 : Fin 3) = (outAt m c : Buf (Elt F) ((c : Thread nD τ).loc main_v1)) := by
  refine (dats m ρ 0 c).arrAt_eq_of_after_last (2 : Fin 3) t₀ (by decide +kernel) _ fun j => ?_
  rfl

/-- Every device's run ends with its result made, its operands as they were and all counters at zero. -/
theorem run_out : θ_run defs (onTc (τ := τ) (main (F := F))) (s₀ m ρ) (fun r => (∀ c : Dev nD,
      r.2.mem ((c : Thread nD τ).loc main_v1) = (outAt m c : Buf (Elt F) ((c : Thread nD τ).loc main_v1))
      ∧ r.2.mem ((c : Thread nD τ).loc main_arg0) = m ((c : Thread nD τ).loc main_arg0)
      ∧ r.2.mem ((c : Thread nD τ).loc main_arg1) = m ((c : Thread nD τ).loc main_arg1)) ∧ r.2.sem = fun _ => 0) :=
  (θ_run defs _ _).mono (fun _ h => ⟨fun c => ⟨(h.1 c (2 : Fin 3)).trans (final_out m ρ c), (h.1 c (0 : Fin 3)).trans (final_x m ρ c),
    (h.1 c (1 : Fin 3)).trans (final_w m ρ c)⟩, h.2⟩) (run_main m ρ)

/-- What device `c` starts with in its staging buffers are its operands. -/
theorem xstg_eq (c : Dev nD) : xstg m c = (m ((c : Thread nD τ).loc main_arg0) : Vec F S256x8192 .bf16) := by
  funext j
  have h : ∀ a : Fin 2, win0_0.index (0 : Fin 1) a = 0 := by decide +kernel
  refine congrArg (m ((c : Thread nD τ).loc main_arg0)) ?_
  funext a; apply Fin.ext
  exact Window.rect_emb_val_of_index_zero win0_0 _ _ (h a) _

theorem wstg_eq (c : Dev nD) : wstg m c = (m ((c : Thread nD τ).loc main_arg1) : Vec F S8192x128 .bf16) := by
  funext j
  have h : ∀ a : Fin 2, win0_1.index (0 : Fin 1) a = 0 := by decide +kernel
  refine congrArg (m ((c : Thread nD τ).loc main_arg1)) ?_
  funext a; apply Fin.ext
  exact Window.rect_emb_val_of_index_zero win0_1 _ _ (h a) _

end Cert.KernelIdeal.Ring

end
-- ==== Proof.KernelIdeal.Value.lean ====
/-
The result at the ideal values: every device has its block of the product of the whole operands, cut off below zero.
-/
module

public import proofs.«01_k».proof.Proof.KernelIdeal.Final
public import proofs.«01_k».proof.Proof.Gen.ReferenceIdeal.Run
public import Idealize.ShloMosaic.Lib.Pointwise
public import Idealize.ShloMosaic.Lib.ValueIdx
public import Idealize.ShloMosaic.Lib.Layout

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

/-- The product the device makes of its own rows, at an index. -/
theorem own_apply (w : Vec Ideal S8192x128 .bf16) (x : Vec Ideal S256x8192 .bf16) (j : S256x128.Idx) :
    k0_pay6 (F := Ideal) (k0_pay4 w) (k0_pay2 x) j = max (∑ k : Fin 8192, x (Idealize.ShloMosaic.ix2 (j 0) k) * w (Idealize.ShloMosaic.ix2 k (j 1))) 0 := by
  unfold k0_pay6 k0_pay4 k0_pay3 k0_pay2
  simp only [pointwise, zero_add]

/-- The product it receives from another, at an index. -/
theorem sent_apply (w : Vec Ideal S8192x128 .bf16) (x : Vec Ideal S256x8192 .bf16) (j : S256x128.Idx) :
    k0_pay1 (F := Ideal) (k0_pay7 (k0_pay4 w) (k0_pay2 x)) j = max (∑ k : Fin 8192, x (Idealize.ShloMosaic.ix2 (j 0) k) * w (Idealize.ShloMosaic.ix2 k (j 1))) 0 := by
  unfold k0_pay1 k0_pay7 k0_pay4 k0_pay3 k0_pay2
  simp only [pointwise, zero_add]

/-- The reference's result of the whole operands. -/
abbrev whole (X : FVec Ideal Cert.ReferenceIdeal.S8192x8192 .bf16) (W : FVec Ideal Cert.ReferenceIdeal.S8192x4096 .bf16) : FVec Ideal Cert.ReferenceIdeal.S8192x4096 .f32 :=
  maximumf (extf .f32 (truncf .bf16 (Host.dotGeneral Cert.ReferenceIdeal.dot_S8192x8192_S8192x4096_S8192x4096_1_0_0_1_n_n none X W)
      Cert.ReferenceIdeal.Facts₀.bitsLt_bf16_f32) Cert.ReferenceIdeal.Facts₀.bitsLt_bf16_f32)
    (broadcastInDim Cert.ReferenceIdeal.S8192x4096 ![] Cert.ReferenceIdeal.Facts₀.bcast_S_S8192x4096 (constant Cert.ReferenceIdeal.S_ .f32 0x00000000#32))

/-- It at an index. -/
theorem whole_apply (X : FVec Ideal Cert.ReferenceIdeal.S8192x8192 .bf16) (W : FVec Ideal Cert.ReferenceIdeal.S8192x4096 .bf16) (i : Cert.ReferenceIdeal.S8192x4096.Idx) :
    whole X W i = max (∑ k : Fin 8192, X (Idealize.ShloMosaic.ix2 (i 0) k) * W (Idealize.ShloMosaic.ix2 k (i 1))) 0 := by
  simp only [whole, pointwise, zero_add]

variable (m : (ℓ : Loc nD τ sig) → Buf (Elt Ideal) ℓ)

/-- The result of device `c` at an index. -/
theorem outAt_apply (c : Dev nD) (y : S8192x128.Idx) :
    outAt m c y = max (∑ k : Fin 8192, xstg m (rowDev y) (Idealize.ShloMosaic.ix2 (rowIx y 0) k) * wstg m c (Idealize.ShloMosaic.ix2 k (rowIx y 1))) 0 := by
  unfold outAt band
  split
  · next h => unfold wB xB; rw [own_apply, h]
  · unfold prodB wB xB; rw [sent_apply]

/-- Where every device has its rows of `X` and its columns of `W`, its result is its columns of the reference's. -/
theorem out_block (X : FVec Ideal Cert.ReferenceIdeal.S8192x8192 .bf16) (W : FVec Ideal Cert.ReferenceIdeal.S8192x4096 .bf16)
    (hX : ∀ o, xstg m o = Layout.block S256x8192 Cert.ReferenceIdeal.S8192x8192 0 32 o X)
    (hW : ∀ o, wstg m o = Layout.block S8192x128 Cert.ReferenceIdeal.S8192x4096 1 32 o W) (c : Dev nD) :
    outAt m c = Layout.block S8192x128 Cert.ReferenceIdeal.S8192x4096 1 32 c (whole X W) := by
  funext y
  rw [outAt_apply, Layout.block_apply, whole_apply]
  refine congrArg (fun s : EReal => max s 0) (Finset.sum_congr rfl fun k _ => ?_)
  rw [hX, hW, Layout.block_apply, Layout.block_apply]
  refine congrArg₂ (fun a b : EReal => a * b) (congrArg X ?_) (congrArg W ?_)
  · funext a; apply Fin.ext
    match a with
    | ⟨0, _⟩ =>
      show (y (0 : Fin 2)).val / 256 * 256 + (y (0 : Fin 2)).val % 256 = (y (0 : Fin 2)).val
      omega
    | ⟨1, _⟩ => rfl
  · funext a; apply Fin.ext
    match a with
    | ⟨0, _⟩ => rfl
    | ⟨1, _⟩ => rfl

end Cert.KernelIdeal.Ring

end
-- ==== Proof.lean ====
/-
The claims of this certificate: both printings of the kernel and the reference run to their end with their arguments as they
were and all counters at zero, and at the ideal values each device's result is its block of the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Kernel.Final
public import proofs.«01_k».proof.Proof.KernelIdeal.Value
public import Idealize.ShloMosaic.Adequacy
public import Idealize.ShloMosaic.Init

@[expose] public section

noncomputable section

namespace Cert.Proof

open Idealize.ShloMosaic Idealize.SL.Sem

/-- The kernel as printed runs to its end, its arguments as they were and all counters at zero. -/
theorem kernel_quiescent : Cert.quiescent_Kernel := fun m g _ =>
  (θ_run Cert.Kernel.defs _ _).mono (fun _ h => ⟨fun c => (h.1 c).2, h.2⟩) (Cert.Kernel.Ring.run_out m g)

/-- So does its ideal printing, -/
theorem ideal_quiescent : Cert.quiescent_KernelIdeal := fun m g _ =>
  (θ_run Cert.KernelIdeal.defs _ _).mono (fun _ h => ⟨fun c => (h.1 c).2, h.2⟩) (Cert.KernelIdeal.Ring.run_out m g)

/-- The reference's counters at its end are those at its start: it has none. -/
theorem no_counters (s : MemSt Cert.ReferenceIdeal.nD Cert.ReferenceIdeal.τ Cert.ReferenceIdeal.sig (Elt Ideal)) : s.sem = fun _ => 0 := by
  funext g
  obtain ⟨t, sm⟩ := g
  cases sm with
  | reg s => exact s.elim0
  | dma s => exact s.elim0

/-- and so does the reference. -/
theorem reference_quiescent : Cert.quiescent_ReferenceIdeal := fun m g _ =>
  (θ_run Cert.ReferenceIdeal.defs _ _).mono (fun r h => ⟨fun c => (h c).2, no_counters r.2⟩) (Cert.ReferenceIdeal.Value.run m g)

set_option maxRecDepth 20000 in
/-- Each device's result is its block of the reference's result. -/
theorem algebraic : Cert.algebraic_KernelIdeal_ReferenceIdeal := fun m g m' g' _ hin =>
  ⟨Cert.KernelIdeal.Ring.whole (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run Cert.KernelIdeal.defs _ _).mono (fun _ h c => ⟨(h.1 c).1.trans (Cert.KernelIdeal.Ring.out_block m _ _
      (fun o => (Cert.KernelIdeal.Ring.xstg_eq m o).trans (hin o).1) (fun o => (Cert.KernelIdeal.Ring.wstg_eq m o).trans (hin o).2) c), (h.1 c).2⟩)
      (Cert.KernelIdeal.Ring.run_out m g),
    (θ_run Cert.ReferenceIdeal.defs _ _).mono (fun _ h => h 0) (Cert.ReferenceIdeal.Value.run m' g')⟩

theorem claim : Cert.Claim := ⟨Cert.Kernel.Gen.facts, Cert.KernelIdeal.Gen.facts, Cert.ReferenceIdeal.Gen.facts,
  kernel_quiescent, ideal_quiescent, reference_quiescent, trivial, algebraic⟩

end Cert.Proof

end
